-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered_codebook [hPre_ordered_codebook : Cert.Pre_ordered_codebook.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_codebook [hPre_ordered_codebook : Cert.Pre_ordered_codebook.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ordered_codebook [hKernelIdeal : Cert.KernelIdeal.Facts] [hPre_ordered_codebook : Cert.Pre_ordered_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_codebook m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ordered_codebook [hReferenceIdeal : Cert.ReferenceIdeal.Facts] [hPre_ordered_codebook : Cert.Pre_ordered_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_codebook m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.sign_bit.Statement Cert.KernelIdeal.S2048x128 .f32

def algebraic_KernelIdeal_ReferenceIdeal_pre_ordered_codebook [hKernelIdeal : Cert.KernelIdeal.Facts] [hReferenceIdeal : Cert.ReferenceIdeal.Facts] [hPre_ordered_codebook : Cert.Pre_ordered_codebook.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_codebook m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ordered_codebook : Cert.Pre_ordered_codebook.Facts),
    quiescent_Kernel (hKernel := hKernel)
    ∧ quiescent_KernelIdeal (hKernelIdeal := hKernelIdeal)
    ∧ quiescent_KernelIdeal_pre_ordered_codebook (hKernelIdeal := hKernelIdeal) (hPre_ordered_codebook := hPre_ordered_codebook)
    ∧ quiescent_ReferenceIdeal (hReferenceIdeal := hReferenceIdeal)
    ∧ quiescent_ReferenceIdeal_pre_ordered_codebook (hReferenceIdeal := hReferenceIdeal) (hPre_ordered_codebook := hPre_ordered_codebook)
    ∧ preserves_Kernel_KernelIdeal
    ∧ algebraic_KernelIdeal_ReferenceIdeal_pre_ordered_codebook (hKernelIdeal := hKernelIdeal) (hReferenceIdeal := hReferenceIdeal) (hPre_ordered_codebook := hPre_ordered_codebook)
-- ==== Pre_ordered_codebook.lean ====
abbrev S8x8x2048x128 : Shape := ⟨4, ![8, 8, 2048, 128]⟩
abbrev S128x128 : Shape := ⟨2, ![128, 128]⟩
abbrev S2 : Shape := ⟨1, ![2]⟩
abbrev S_ : Shape := ⟨0, ![]⟩
abbrev S1 : Shape := ⟨1, ![1]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S2 : S_.BroadcastsInDim S2 (![] : Fin 0 → Fin S2.rank)
  reducesTo_S2_S_d0 : S2.ReducesTo [0] S_
  slices_S2_S1_0 : S2.Slices ![0] S1
  shapeCasts_S1_S_ : S1.ShapeCasts S_
  slices_S2_S1_1 : S2.Slices ![1] S1

variable [Facts]

def fn {F : FTy → Type} [FloatOps F] (main_arg0 : FVec F S8x8x2048x128 .f32) (main_arg1 : FVec F S128x128 .f32) (main_arg2 : FVec F S2 .f32) : IVec S_ 1 :=
  let main_v0 : FVec F S128x128 .f32 := Host.absf main_arg1
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S2 .f32 := Host.absf main_arg2
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  let main_v9 : FVec F S1 .f32 := (extractStridedSlice S1 ![0] · slices_S2_S1_0) main_arg2
  let main_v10 : FVec F S_ .f32 := shapeCast S_ main_v9 shapeCasts_S1_S_
  let main_v11 : FVec F S1 .f32 := (extractStridedSlice S1 ![1] · slices_S2_S1_1) main_arg2
  let main_v12 : FVec F S_ .f32 := shapeCast S_ main_v11 shapeCasts_S1_S_
  let main_v13 : IVec S_ 1 := cmpf .ole main_v10 main_v12
  let main_v14 : IVec S_ 1 := andi main_v8 main_v13
  main_v14
-- ==== Kernel.lean ====
abbrev S8x8x2048x128 : Shape := ⟨4, ![8, 8, 2048, 128]⟩
abbrev S128x128 : Shape := ⟨2, ![128, 128]⟩
abbrev S2 : Shape := ⟨1, ![2]⟩
abbrev S1x2 : Shape := ⟨2, ![1, 2]⟩
abbrev S1x8x2048x128 : Shape := ⟨4, ![1, 8, 2048, 128]⟩
abbrev S1x1x2048x128 : Shape := ⟨4, ![1, 1, 2048, 128]⟩
abbrev S2048x128 : Shape := ⟨2, ![2048, 128]⟩
abbrev S2048 : Shape := ⟨1, ![2048]⟩
abbrev S2048x1 : Shape := ⟨2, ![2048, 1]⟩
abbrev S1x7x2048x128 : Shape := ⟨4, ![1, 7, 2048, 128]⟩
abbrev S7x2048x128 : Shape := ⟨3, ![7, 2048, 128]⟩
abbrev S1x2048x128 : Shape := ⟨3, ![1, 2048, 128]⟩
abbrev S7x2048 : Shape := ⟨2, ![7, 2048]⟩
abbrev S7x2048x1 : Shape := ⟨3, ![7, 2048, 1]⟩
abbrev S14336x128 : Shape := ⟨2, ![14336, 128]⟩
abbrev S1x1 : Shape := ⟨2, ![1, 1]⟩

abbrev nBuf : Space → Nat
  | .hbm => 5
  | .vmem => 6
  | .smem => 0
  | _ => 0

abbrev bufTy : (tb : Table) → Fin (tcTables nBuf tb) → BufTy
  | .hbm, ⟨0, _⟩ => ⟨S8x8x2048x128, .f32⟩
  | .hbm, ⟨1, _⟩ => ⟨S128x128, .f32⟩
  | .hbm, ⟨2, _⟩ => ⟨S2, .f32⟩
  | .hbm, ⟨3, _⟩ => ⟨S1x2, .f32⟩
  | .hbm, ⟨4, _⟩ => ⟨S8x8x2048x128, .f32⟩
  | .local _ .vmem, ⟨0, _⟩ => ⟨S1x8x2048x128, .f32⟩
  | .local _ .vmem, ⟨1, _⟩ => ⟨S1x8x2048x128, .f32⟩
  | .local _ .vmem, ⟨2, _⟩ => ⟨S128x128, .f32⟩
  | .local _ .vmem, ⟨3, _⟩ => ⟨S1x2, .f32⟩
  | .local _ .vmem, ⟨4, _⟩ => ⟨S1x8x2048x128, .f32⟩
  | .local _ .vmem, ⟨5, _⟩ => ⟨S1x8x2048x128, .f32⟩
  | _, _ => ⟨S8x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "third" => some ((1 / 3 : ℝ) : EReal)
  | _ => none
-- ==== ReferenceIdeal.lean ====
abbrev S8x8x2048x128 : Shape := ⟨4, ![8, 8, 2048, 128]⟩
abbrev S128x128 : Shape := ⟨2, ![128, 128]⟩
abbrev S2 : Shape := ⟨1, ![2]⟩
abbrev S8x1x2048x128 : Shape := ⟨4, ![8, 1, 2048, 128]⟩
abbrev S8x2048x128 : Shape := ⟨3, ![8, 2048, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S8x0x2048x128 : Shape := ⟨4, ![8, 0, 2048, 128]⟩
abbrev S8x7x2048x128 : Shape := ⟨4, ![8, 7, 2048, 128]⟩
abbrev S8x7x2048 : Shape := ⟨3, ![8, 7, 2048]⟩
abbrev S8x7x2048x1 : Shape := ⟨4, ![8, 7, 2048, 1]⟩
abbrev S8x7x2048x128x1 : Shape := ⟨5, ![8, 7, 2048, 128, 1]⟩
abbrev S1x1x1x1x2 : Shape := ⟨5, ![1, 1, 1, 1, 2]⟩
abbrev S8x7x2048x128x2 : Shape := ⟨5, ![8, 7, 2048, 128, 2]⟩
abbrev S1 : Shape := ⟨1, ![1]⟩
abbrev S1x1x1x1x1 : Shape := ⟨5, ![1, 1, 1, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S8x8x2048x128, .f32⟩
  | .hbm, ⟨1, _⟩ => ⟨S128x128, .f32⟩
  | .hbm, ⟨2, _⟩ => ⟨S2, .f32⟩
  | .hbm, ⟨3, _⟩ => ⟨S8x1x2048x128, .f32⟩
  | .hbm, ⟨4, _⟩ => ⟨S8x2048x128, .f32⟩
  | .hbm, ⟨5, _⟩ => ⟨S16384x128, .f32⟩
  | .hbm, ⟨6, _⟩ => ⟨S16384x128, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x128, .f32⟩
  | .hbm, ⟨19, _⟩ => ⟨S16384x128, .f32⟩
  | .hbm, ⟨20, _⟩ => ⟨S_, .f32⟩
  | .hbm, ⟨21, _⟩ => ⟨S16384x128, .f32⟩
  | .hbm, ⟨22, _⟩ => ⟨S16384x128, .f32⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S_, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S16384x128, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S8x2048x128, .f32⟩
  | .hbm, ⟨45, _⟩ => ⟨S8x0x2048x128, .f32⟩
  | .hbm, ⟨46, _⟩ => ⟨S8x7x2048x128, .f32⟩
  | .hbm, ⟨47, _⟩ => ⟨S8x7x2048x128, .f32⟩
  | .hbm, ⟨48, _⟩ => ⟨S8x1x2048x128, .f32⟩
  | .hbm, ⟨49, _⟩ => ⟨S8x7x2048x128, .f32⟩
  | .hbm, ⟨50, _⟩ => ⟨S8x7x2048x128, .f32⟩
  | .hbm, ⟨51, _⟩ => ⟨S8x7x2048x128, .f32⟩
  | .hbm, ⟨52, _⟩ => ⟨S_, .f32⟩
  | .hbm, ⟨53, _⟩ => ⟨S8x7x2048, .f32⟩
  | .hbm, ⟨54, _⟩ => ⟨S8x7x2048x1, .f32⟩
  | .hbm, ⟨55, _⟩ => ⟨S8x7x2048x1, .f32⟩
  | .hbm, ⟨56, _⟩ => ⟨S_, .f32⟩
  | .hbm, ⟨57, _⟩ => ⟨S8x7x2048x1, .f32⟩
  | .hbm, ⟨58, _⟩ => ⟨S8x7x2048x1, .f32⟩
  | .hbm, ⟨59, _⟩ => ⟨S8x7x2048x128, .f32⟩
  | .hbm, ⟨60, _⟩ => ⟨S8x7x2048x128, .f32⟩
  | .hbm, ⟨61, _⟩ => ⟨S8x7x2048x128, .f32⟩
  | .hbm, ⟨62, _⟩ => ⟨S8x7x2048x128x1, .f32⟩
  | .hbm, ⟨63, _⟩ => ⟨S1x1x1x1x2, .f32⟩
  | .hbm, ⟨64, _⟩ => ⟨S8x7x2048x128x2, .f32⟩
  | .hbm, ⟨65, _⟩ => ⟨S8x7x2048x128x2, .f32⟩
  | .hbm, ⟨66, _⟩ => ⟨S8x7x2048x128x2, .f32⟩
  | .hbm, ⟨67, _⟩ => ⟨S8x7x2048x128x2, .f32⟩
  | .hbm, ⟨68, _⟩ => ⟨S8x7x2048x128x2, .i32⟩
  | .hbm, ⟨69, _⟩ => ⟨S_, .f32⟩
  | .hbm, ⟨70, _⟩ => ⟨S_, .i32⟩
  | .hbm, ⟨71, _⟩ => ⟨S8x7x2048x128, .f32⟩
  | .hbm, ⟨72, _⟩ => ⟨S8x7x2048x128, .i32⟩
  | .hbm, ⟨73, _⟩ => ⟨S_, .i32⟩
  | .hbm, ⟨74, _⟩ => ⟨S8x7x2048x128, .i32⟩
  | .hbm, ⟨75, _⟩ => ⟨S8x7x2048x128, .i1⟩
  | .hbm, ⟨76, _⟩ => ⟨S_, .i32⟩
  | .hbm, ⟨77, _⟩ => ⟨S8x7x2048x128, .i32⟩
  | .hbm, ⟨78, _⟩ => ⟨S8x7x2048x128, .i32⟩
  | .hbm, ⟨79, _⟩ => ⟨S8x7x2048x128, .i32⟩
  | .hbm, ⟨80, _⟩ => ⟨S8x7x2048x128x1, .i32⟩
  | .hbm, ⟨81, _⟩ => ⟨S1, .i32⟩
  | .hbm, ⟨82, _⟩ => ⟨S_, .i32⟩
  | .hbm, ⟨83, _⟩ => ⟨S8x7x2048x128x1, .i32⟩
  | .hbm, ⟨84, _⟩ => ⟨S8x7x2048x128x1, .i1⟩
  | .hbm, ⟨85, _⟩ => ⟨S1x1x1x1x1, .i32⟩
  | .hbm, ⟨86, _⟩ => ⟨S8x7x2048x128x1, .i32⟩
  | .hbm, ⟨87, _⟩ => ⟨S8x7x2048x128x1, .i1⟩
  | .hbm, ⟨88, _⟩ => ⟨S8x7x2048x128x1, .i1⟩
  | .hbm, ⟨89, _⟩ => ⟨S_, .i1⟩
  | .hbm, ⟨90, _⟩ => ⟨S8x7x2048x128, .i1⟩
  | .hbm, ⟨91, _⟩ => ⟨S8x7x2048x128, .f32⟩
  | .hbm, ⟨92, _⟩ => ⟨S_, .f32⟩
  | .hbm, ⟨93, _⟩ => ⟨S8x7x2048x128, .f32⟩
  | .hbm, ⟨94, _⟩ => ⟨S8x7x2048x128, .f32⟩
  | .hbm, ⟨95, _⟩ => ⟨S8x7x2048x128, .f32⟩
  | .hbm, ⟨96, _⟩ => ⟨S8x1x2048x128, .f32⟩
  | .hbm, ⟨97, _⟩ => ⟨S8x7x2048x128, .f32⟩
  | .hbm, ⟨98, _⟩ => ⟨S8x7x2048x128, .f32⟩
  | .hbm, ⟨99, _⟩ => ⟨S8x7x2048x128, .f32⟩
  | .hbm, ⟨100, _⟩ => ⟨S8x7x2048x128, .f32⟩
  | .hbm, ⟨101, _⟩ => ⟨S8x0x2048x128, .f32⟩
  | .hbm, ⟨102, _⟩ => ⟨S8x1x2048x128, .f32⟩
  | .hbm, ⟨103, _⟩ => ⟨S8x8x2048x128, .f32⟩
  | _, _ => ⟨S8x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call2_v0 : Ref sig .tc := ⟨.hbm, 51, rfl⟩
abbrev main_call2_cst : Ref sig .tc := ⟨.hbm, 52, rfl⟩
abbrev main_call2_v1 : Ref sig .tc := ⟨.hbm, 53, rfl⟩
abbrev main_call2_v2 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call3_v0 : Ref sig .tc := ⟨.hbm, 68, rfl⟩
abbrev main_call3_cst : Ref sig .tc := ⟨.hbm, 69, rfl⟩
abbrev main_call3_c : Ref sig .tc := ⟨.hbm, 70, rfl⟩
abbrev main_call3_v1_0 : Ref sig .tc := ⟨.hbm, 71, rfl⟩
abbrev main_v47 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_cst : Ref sig .tc := ⟨.hbm, 92, rfl⟩
abbrev main_call4_v14 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩

abbrev nD : Nat := 1
abbrev τ : Topo := Topo.v7x

variable {F : FTy → Type} [FloatOps F]
-- ==== Proof.Rows.lean ====
/- What the kernel and the reference compute of one row of 128 entries, as functions on the extended reals, and the
   two equations between their spellings that hold of every row: the quantization step and the sign. -/
module

public import Idealize.ShloMosaic.PureOps.Ideal
public import Idealize.ShloMosaic.PureOps.Ideal.Laws
public import Idealize.ShloMosaic.Lib.IdealHost

@[expose] public section

noncomputable section

namespace Cert.Rows

open Idealize.ShloMosaic

/-- The absolute value of an ideal float. -/
abbrev mag (a : EReal) : EReal := FloatOps.absf (F := Ideal) (φ := .f32) a

/-- The small constant `1e-8` (its f32 word) both programs add before they divide. -/
abbrev tiny : EReal := Ideal.ofBits .f32 0x322BCC77#32

/-- A row's scale: its largest magnitude plus `tiny`. -/
def scale (x : Fin 128 → EReal) : EReal :=
  Finset.univ.fold max (Ideal.ofBits .f32 0xFF800000#32) (fun k => mag (x k)) + tiny

/-- The quantization level of entry `d` of a row: the entry over the scale, clipped to [-1, 1], times three, rounded
    half to even. -/
def level (x : Fin 128 → EReal) (d : Fin 128) : EReal :=
  Ideal.liftRound Ideal.roundHalfEven
    (min 1 (max (Ideal.ofBits .f32 0xBF800000#32) (Ideal.div (x d) (scale x))) * Ideal.ofBits .f32 0x40400000#32)

/-- The quantized entry as the reference states it: the level over three, times the scale. -/
def grid (x : Fin 128 → EReal) (d : Fin 128) : EReal :=
  Ideal.div (level x d) (Ideal.ofBits .f32 0x40400000#32) * scale x

/-- What quantization leaves over at entry `d`. -/
def rest (x : Fin 128 → EReal) (d : Fin 128) : EReal := x d - grid x d

/-- The reconstructed anchor row: the quantized entry plus the mean magnitude of the rest, with the rest's sign. -/
def anchor (x : Fin 128 → EReal) (d : Fin 128) : EReal :=
  grid x d + Ideal.div (∑ k, mag (rest x k)) (Ideal.ofBits .f32 0x43000000#32) * Ideal.sign (rest x d)

/-- The Euclidean norm of a row. -/
def norm (δ : Fin 128 → EReal) : EReal := Ideal.sqrt (∑ k, δ k * δ k)

/-- Entry `e` of the normalized row taken through the rotation `R`. -/
def turned (δ : Fin 128 → EReal) (R : Fin 128 → Fin 128 → EReal) (e : Fin 128) : EReal :=
  ∑ k, Ideal.div (δ k) (norm δ + tiny) * R e k

/-- Entry `d` of a row of one of the other heads, from the anchor's row `a`, the row's difference `δ` from it, the
    rotation `R` and the coding `code` of one rotated entry. -/
def restored (code : EReal → EReal) (a δ : Fin 128 → EReal) (R : Fin 128 → Fin 128 → EReal) (d : Fin 128) : EReal :=
  a d + (∑ e, code (turned δ R e) * R e d) * norm δ

/-- Entry `d` of position `s` of head `h` of one batch's result, from the batch `X` (head, position, entry): head 0 is
    the anchor, the other heads are restored from their differences from it. -/
def result (code : EReal → EReal) (X : Fin 8 → Fin 2048 → Fin 128 → EReal) (R : Fin 128 → Fin 128 → EReal)
    (h : Fin 8) (s : Fin 2048) (d : Fin 128) : EReal :=
  if h = 0 then anchor (X 0 s) d
  else restored code (anchor (X 0 s)) (fun k => X h s k - anchor (X 0 s) k) R d

/-- The kernel's coding of a rotated entry: the first codeword up to the midpoint, the second above it. -/
def byMidpoint (c0 c1 y : EReal) : EReal := if y ≤ Ideal.ofBits .f32 0x3F000000#32 * (c0 + c1) then c0 else c1

/-- The reference's coding: the codeword nearest to the entry, the first where both are equally near. -/
def byDistance (c0 c1 y : EReal) : EReal := if mag (y - c1) < mag (y - c0) then c1 else c0

/-- The word `0x40400000` is three. -/
theorem three : Ideal.ofBits .f32 0x40400000#32 = ((3 : ℝ) : EReal) := by
  simp [Ideal.ofBits, Ideal.ieee, -EReal.coe_mul]; norm_num

/-- The word `0xBF800000` is minus one. -/
theorem minus_one : Ideal.ofBits .f32 0xBF800000#32 = -1 := by
  simp [Ideal.ofBits, Ideal.ieee, -EReal.coe_mul]; norm_num

/-- The word `0x3F000000` is one half. -/
theorem half : Ideal.ofBits .f32 0x3F000000#32 = ((1 / 2 : ℝ) : EReal) := by
  simp [Ideal.ofBits, Ideal.ieee, -EReal.coe_mul]; norm_num

/-- `tiny` is a positive real. -/
theorem tiny_pos : ∃ t : ℝ, 0 < t ∧ tiny = (t : EReal) := by
  refine ⟨(2 ^ 23 + 2870391 : ℕ) * (2 : ℝ) ^ (-50 : ℤ), by positivity, ?_⟩
  simp [Ideal.ofBits, Ideal.ieee, -EReal.coe_mul]

/-- The quantized entry as the kernel states it, the level times a third of the scale, is the reference's. -/
theorem grid_eq (x : Fin 128 → EReal) (d : Fin 128) : level x d * (((1 / 3 : ℝ) : EReal) * scale x) = grid x d := by
  rw [grid, three, Ideal.div_coe (by norm_num), mul_assoc]

/-- The kernel's sign, by the magnitude and the sign bit, is the sign. -/
theorem sign_eq (r : EReal) :
    (if 0 < mag r then (if r < 0 then Ideal.ofBits .f32 0xBF800000#32 else 1) else r) = Ideal.sign r := by
  have hm : 0 < mag r ↔ r ≠ 0 := Ideal.zero_lt_max_neg_iff r
  rcases lt_trichotomy r 0 with h | h | h
  · rw [if_pos (hm.2 h.ne), if_pos h, Ideal.sign_of_neg h, minus_one]
  · rw [if_neg (by rw [hm]; exact fun c => c h), h, Ideal.sign_zero]
  · rw [if_pos (hm.2 h.ne'), if_neg h.le.not_gt, Ideal.sign_of_pos h]

/-- The kernel's spelling of the anchor row, over the level, a third of the scale and the sign by cases. -/
theorem anchor_eq (x : Fin 128 → EReal) (d : Fin 128) :
    level x d * (((1 / 3 : ℝ) : EReal) * scale x)
      + Ideal.div (∑ k, mag (x k - level x k * (((1 / 3 : ℝ) : EReal) * scale x))) (Ideal.ofBits .f32 0x43000000#32)
        * (if 0 < mag (x d - level x d * (((1 / 3 : ℝ) : EReal) * scale x)) then
            (if x d - level x d * (((1 / 3 : ℝ) : EReal) * scale x) < 0 then Ideal.ofBits .f32 0xBF800000#32 else 1)
          else x d - level x d * (((1 / 3 : ℝ) : EReal) * scale x))
      = anchor x d := by
  rw [sign_eq]
  simp only [grid_eq]
  rfl

end Cert.Rows

end
-- ==== Proof.Coding.lean ====
/- The two codings of a rotated entry agree: the midpoint test and the nearest codeword choose the same one, for
   finite codewords in order and an entry that is not `+∞`; and with a finite rotation every rotated entry is finite,
   whatever the row. -/
module

public import proofs.«01_k».proof.Proof.Rows

@[expose] public section

noncomputable section

namespace Cert.Rows

open Idealize.ShloMosaic

/-- The magnitude of a real. -/
theorem mag_coe (r : ℝ) : mag (r : EReal) = ((|r| : ℝ) : EReal) := by
  show max (r : EReal) (-(r : EReal)) = _
  rw [← EReal.coe_neg, ← EReal.coe_strictMono.monotone.map_max, abs_eq_max_neg]

/-- For real codewords in order and an entry that is not `+∞`, the two codings choose the same codeword. -/
theorem coding_eq {a b : ℝ} (hab : a ≤ b) {y : EReal} (hy : y ≠ ⊤) : byMidpoint a b y = byDistance a b y := by
  unfold byMidpoint byDistance
  induction y using EReal.rec with
  | top => exact absurd rfl hy
  | bot =>
    rw [if_pos bot_le, if_neg]
    simp [mag, Ideal.absf_def]
  | coe y =>
    simp only [half, ← EReal.coe_add, ← EReal.coe_mul, EReal.coe_le_coe_iff, ← EReal.coe_sub, mag_coe,
      EReal.coe_lt_coe_iff]
    rcases hab.eq_or_lt with rfl | hlt
    · simp
    · by_cases h : y ≤ 1 / 2 * (a + b)
      · rw [if_pos h, if_neg]
        rw [not_lt, ← sq_le_sq]
        nlinarith
      · rw [if_neg h, if_pos]
        rw [← sq_lt_sq]
        nlinarith

/-- A square is not negative. -/
theorem sq_nonneg' (a : EReal) : 0 ≤ a * a := by
  rcases le_total 0 a with h | h
  · exact mul_nonneg h h
  · rw [← neg_mul_neg]
    exact mul_nonneg (EReal.neg_nonneg.2 h) (EReal.neg_nonneg.2 h)

/-- An entry of a row over the row's norm plus `tiny` is a real number, whatever the row. -/
theorem normalized_real (δ : Fin 128 → EReal) (k : Fin 128) : ∃ r : ℝ, Ideal.div (δ k) (norm δ + tiny) = (r : EReal) := by
  obtain ⟨t, ht, hte⟩ := tiny_pos
  have hs : 0 ≤ ∑ k, δ k * δ k := Finset.sum_nonneg fun k _ => sq_nonneg' (δ k)
  have hk : δ k * δ k ≤ ∑ k, δ k * δ k :=
    Finset.single_le_sum (f := fun k => δ k * δ k) (fun k _ => sq_nonneg' (δ k)) (Finset.mem_univ k)
  rw [hte]
  unfold norm
  revert hs hk
  generalize (∑ k, δ k * δ k) = S
  intro hs hk
  induction S using EReal.rec with
  | bot => exact absurd hs (by simp)
  | top =>
    refine ⟨0, ?_⟩
    rw [Ideal.sqrt_top, EReal.top_add_coe]
    simp [Ideal.div]
  | coe S =>
    have hS : 0 ≤ S := EReal.coe_nonneg.1 hs
    rw [Ideal.sqrt_coe, if_neg hS.not_gt, ← EReal.coe_add]
    have hp : √S + t ≠ 0 := by positivity
    rw [Ideal.div_coe hp]
    revert hk
    generalize δ k = a
    intro hk
    induction a using EReal.rec with
    | bot => simp at hk
    | top => simp at hk
    | coe a => exact ⟨a * (1 / (√S + t)), by rw [EReal.coe_mul]⟩

/-- A sum of reals, taken in the extended reals, is a real. -/
theorem sum_real {n : ℕ} (f : Fin n → EReal) (hf : ∀ k, ∃ r : ℝ, f k = (r : EReal)) : ∃ r : ℝ, ∑ k, f k = (r : EReal) := by
  choose g hg using hf
  refine ⟨∑ k, g k, ?_⟩
  rw [Finset.sum_congr rfl fun k _ => hg k]
  induction (Finset.univ : Finset (Fin n)) using Finset.induction_on with
  | empty => simp
  | insert a s ha ih => rw [Finset.sum_insert ha, Finset.sum_insert ha, ih, EReal.coe_add]

/-- With a finite rotation a rotated entry is not `+∞`, whatever the row. -/
theorem turned_ne_top (δ : Fin 128 → EReal) (R : Fin 128 → Fin 128 → EReal) (hR : ∀ e k, ∃ r : ℝ, R e k = (r : EReal))
    (e : Fin 128) : turned δ R e ≠ ⊤ := by
  obtain ⟨r, hr⟩ := sum_real (fun k => Ideal.div (δ k) (norm δ + tiny) * R e k) fun k => by
    obtain ⟨a, ha⟩ := normalized_real δ k
    obtain ⟨b, hb⟩ := hR e k
    exact ⟨a * b, by rw [ha, hb, EReal.coe_mul]⟩
  unfold turned
  rw [hr]
  exact EReal.coe_ne_top r

/-- So a restored row is the same by either coding. -/
theorem restored_eq {c0 c1 : ℝ} (h : c0 ≤ c1) (a δ : Fin 128 → EReal) (R : Fin 128 → Fin 128 → EReal)
    (hR : ∀ e k, ∃ r : ℝ, R e k = (r : EReal)) (d : Fin 128) :
    restored (byMidpoint c0 c1) a δ R d = restored (byDistance c0 c1) a δ R d := by
  unfold restored
  congr 2
  exact Finset.sum_congr rfl fun e _ => by rw [coding_eq h (turned_ne_top δ R hR e)]

end Cert.Rows

end
-- ==== Proof.Payload.lean ====
/- What the kernel's two stores write, read at an index: the first the anchor rows, the second the rows restored from
   them, as the row functions of the loaded rows. -/
module

public import proofs.«01_k».proof.Proof.Gen.KernelIdeal.Skeleton
public import proofs.«01_k».proof.Proof.Rows
public import Idealize.ShloMosaic.Lib.Pointwise

@[expose] public section

set_option maxRecDepth 16384

noncomputable section

namespace Cert.Payload

open Cert.KernelIdeal Cert.KernelIdeal.Gen Cert.Rows Idealize.ShloMosaic

/-- The named constant is the real one third. -/
theorem third : (Named.named κ "third" (φ := .f32) 0x3EAAAAAB#32 : Ideal .f32) = ((1 / 3 : ℝ) : EReal) := rfl

/-- The first store's rows are the anchor rows of the loaded rows. -/
theorem pay1_apply (x : Vec Ideal S1x1x2048x128 .f32) (s : Fin 2048) (d : Fin 128) :
    k0_pay1 x (ix2 s d) = anchor (fun k => x (ix4 0 0 s k)) d := by
  pointwise [k0_pay1]
  rw [third]
  exact anchor_eq (fun k => x (ix4 0 0 s k)) d

/-- The same, with the two leading axes of extent one. -/
theorem pay2_apply (x : Vec Ideal S1x1x2048x128 .f32) (s : Fin 2048) (d : Fin 128) :
    k0_pay2 x (ix4 0 0 s d) = anchor (fun k => x (ix4 0 0 s k)) d := by
  rw [← pay1_apply]
  unfold k0_pay2
  generalize k0_pay1 x = a
  pointwise

/-- The second store's rows are the rows restored from the anchor rows `a`, coded by the midpoint. -/
theorem pay3_apply (a : FVec Ideal S2048x128 .f32) (x : Vec Ideal S1x7x2048x128 .f32) (w : Vec Ideal S128x128 .f32)
    (c0 c1 : Vec Ideal S1x1 .f32) (h : Fin 7) (s : Fin 2048) (d : Fin 128) :
    k0_pay3 a x w c0 c1 (ix4 0 h s d)
      = restored (byMidpoint (c0 (ix2 0 0)) (c1 (ix2 0 0))) (fun k => a (ix2 s k))
          (fun k => x (ix4 0 h s k) - a (ix2 s k)) (fun e k => w (ix2 e k)) d := by
  pointwise [k0_pay3]
  rfl

end Cert.Payload

end
-- ==== Proof.Block.lean ====
/- What one block of the kernel computes: its two stores together leave the staging buffer at `result` of the block. -/
module

public import proofs.«01_k».proof.Proof.Gen.KernelIdeal.Value
public import proofs.«01_k».proof.Proof.Payload

@[expose] public section

set_option maxRecDepth 16384

noncomputable section

namespace Cert.Block

open Cert.KernelIdeal Cert.KernelIdeal.Gen Cert.Rows Cert.Payload Idealize.ShloMosaic

/-- A block of the result from the input blocks: batch `x0`, rotation `x1`, codewords `x2`. -/
def blockOf (x0 : Vec Ideal S1x8x2048x128 .f32) (x1 : Vec Ideal S128x128 .f32) (x2 : Vec Ideal S1x2 .f32) :
    Vec Ideal S1x8x2048x128 .f32 :=
  fun y => result (byMidpoint (x2 (ix2 0 0)) (x2 (ix2 0 1))) (fun h s d => x0 (ix4 0 h s d)) (fun e k => x1 (ix2 e k))
    (y 1) (y 2) (y 3)

/-- The first store's rectangle places its index in head 0. -/
theorem emb_first (s : Fin 2048) (d : Fin 128) :
    (Rect.unit (s := S1x8x2048x128) ![0, 0, 0, 0] S1x1x2048x128.size inb_S1x8x2048x128_S1x1x2048x128_0_0_0_0).emb
      (ix4 0 0 s d : S1x1x2048x128.Idx) = ix4 0 0 s d := by
  funext a
  apply Fin.ext
  match a with
  | ⟨0, _⟩ => rfl
  | ⟨1, _⟩ => rfl
  | ⟨2, _⟩ => show 0 + 1 * s.val = s.val; omega
  | ⟨3, _⟩ => show 0 + 1 * d.val = d.val; omega

/-- The second store's rectangle places its index one head further. -/
theorem emb_others (h : Fin 7) (s : Fin 2048) (d : Fin 128) :
    (Rect.unit (s := S1x8x2048x128) ![0, 1, 0, 0] S1x7x2048x128.size inb_S1x8x2048x128_S1x7x2048x128_0_1_0_0).emb
      (ix4 0 h s d : S1x7x2048x128.Idx) = ix4 0 ⟨1 + h.val, by omega⟩ s d := by
  funext a
  apply Fin.ext
  match a with
  | ⟨0, _⟩ => rfl
  | ⟨1, _⟩ => show 1 + 1 * h.val = 1 + h.val; omega
  | ⟨2, _⟩ => show 0 + 1 * s.val = s.val; omega
  | ⟨3, _⟩ => show 0 + 1 * d.val = d.val; omega

/-- What the run leaves in the output's staging buffer is `blockOf` the input blocks. -/
theorem out_eq (c : Dev nD) (i : grid0.Coords) (arg2 : Memref sig .tc .vmem S1x8x2048x128 .f32) (harg2 : arg2.IsWhole)
    (arg3 : Memref sig .tc .vmem S128x128 .f32) (harg3 : arg3.IsWhole) (arg4 : Memref sig .tc .vmem S1x2 .f32)
    (harg4 : arg4.IsWhole) (arg5 : Memref sig .tc .vmem S1x8x2048x128 .f32) (harg5 : arg5.IsWhole)
    (x0 : Vec Ideal S1x8x2048x128 .f32) (x1 : Vec Ideal S128x128 .f32) (x2 : Vec Ideal S1x2 .f32) :
    out0_A_3 c i arg2 harg2 arg3 harg3 arg4 harg4 arg5 harg5 x0 x1 x2 = blockOf x0 x1 x2 := by
  funext y
  unfold out0_A_3
  refine View.read_writes_apply_of_pieces VO0_3 VO0_3.junk (blockOf x0 x1 x2) _ ?_ y
    (cover0_A_3 c i arg2 harg2 arg3 harg3 arg4 harg4 arg5 harg5 x0 x1 x2 y)
  show ∀ p ∈ ([
      ⟨Rect.unit (s := S1x8x2048x128) ![0, 1, 0, 0] S1x7x2048x128.size inb_S1x8x2048x128_S1x7x2048x128_0_1_0_0,
        k0_pay3
          (k0_pay1 (View.readAt (Elt Ideal) arg2.view (Rect.unit (s := S1x8x2048x128) ![0, 0, 0, 0] S1x1x2048x128.size inb_S1x8x2048x128_S1x1x2048x128_0_0_0_0).toLoadRect (harg2.unread x0)))
          (View.readAt (Elt Ideal) arg2.view (Rect.unit (s := S1x8x2048x128) ![0, 1, 0, 0] S1x7x2048x128.size inb_S1x8x2048x128_S1x7x2048x128_0_1_0_0).toLoadRect (harg2.unread x0))
          (View.readAt (Elt Ideal) arg3.view (Rect.unit (s := S128x128) ![0, 0] S128x128.size inb_S128x128_S128x128_0_0).toLoadRect (harg3.unread x1))
          (View.readAt (Elt Ideal) arg4.view (Rect.unit (s := S1x2) ![0, 0] S1x1.size inb_S1x2_S1x1_0_0).toLoadRect (harg4.unread x2))
          (View.readAt (Elt Ideal) arg4.view (Rect.unit (s := S1x2) ![0, 1] S1x1.size inb_S1x2_S1x1_0_1).toLoadRect (harg4.unread x2))⟩,
      ⟨Rect.unit (s := S1x8x2048x128) ![0, 0, 0, 0] S1x1x2048x128.size inb_S1x8x2048x128_S1x1x2048x128_0_0_0_0,
        k0_pay2 (View.readAt (Elt Ideal) arg2.view (Rect.unit (s := S1x8x2048x128) ![0, 0, 0, 0] S1x1x2048x128.size inb_S1x8x2048x128_S1x1x2048x128_0_0_0_0).toLoadRect (harg2.unread x0))⟩] :
      List (View.Piece (Elt Ideal) S1x8x2048x128 .f32)), ∀ z : p.1.shape.Idx, p.2 z = blockOf x0 x1 x2 (p.1.emb z)
  simp only [View.readAt_eq_ld, harg2.read_unread, harg3.read_unread, harg4.read_unread]
  intro p hp
  rcases List.mem_cons.1 hp with rfl | hp
  · intro (z : S1x7x2048x128.Idx)
    idx_vars z
    show k0_pay3 _ _ _ _ _ (ix4 z0 z1 z2 z3) = _
    rw [Subsingleton.elim z0 0, pay3_apply]
    simp only [pay1_apply]
    refine Eq.trans ?_ (congrArg (blockOf x0 x1 x2) (emb_others z1 z2 z3)).symm
    show _ = result _ _ _ (⟨1 + z1.val, by omega⟩ : Fin 8) z2 z3
    rw [result, if_neg (by intro e; have := congrArg Fin.val e; simp at this)]
    pointwise
  · rcases List.mem_singleton.1 hp with rfl
    intro (z : S1x1x2048x128.Idx)
    idx_vars z
    show k0_pay2 _ (ix4 z0 z1 z2 z3) = _
    rw [Subsingleton.elim z0 0, Subsingleton.elim z1 0, pay2_apply]
    refine Eq.trans ?_ (congrArg (blockOf x0 x1 x2) (emb_first z2 z3)).symm
    show _ = result _ _ _ (0 : Fin 8) z2 z3
    rw [result, if_pos rfl]
    pointwise

end Cert.Block

end
-- ==== Proof.Array.lean ====
/- What the result array holds after the kernel's run: `result` of the argument arrays, batch by batch. Each grid point
   takes one batch of the states, the whole rotation and the whole codebook, and writes that batch of the result. -/
module

public import proofs.«01_k».proof.Proof.Block

@[expose] public section

set_option maxRecDepth 16384

noncomputable section

namespace Cert.Array

open Cert.KernelIdeal Cert.KernelIdeal.Gen Cert.KernelIdeal.Value Cert.Rows Cert.Block Idealize.ShloMosaic
  Idealize.ShloMosaic.TcCoe Idealize.SL.Sem

/-- The result array from the argument arrays: the states `kv`, the rotation `R`, the codebook `cb`. -/
def resultOf (kv : Vec Ideal S8x8x2048x128 .f32) (R : Vec Ideal S128x128 .f32) (cb : Vec Ideal S2 .f32) :
    Vec Ideal S8x8x2048x128 .f32 :=
  fun y => result (byMidpoint (cb (ix1 0)) (cb (ix1 1))) (fun h s d => kv (ix4 (y 0) h s d)) (fun e k => R (ix2 e k))
    (y 1) (y 2) (y 3)

variable (m : (ℓ : Loc nD τ sig) → Buf (Elt Ideal) ℓ) (ρ : Dev nD → PrngReg)

/-- The states' block at a grid point is the batch of the point's number, and so is the result's. -/
theorem idx_kv : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx_out : ∀ t : Fin cfg0.N, win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, _)

/-- The rotation's and the codebook's blocks are their whole arrays. -/
theorem idx_R : ∀ t : Fin cfg0.N, win0_1.index t (0 : Fin 2) = 0 ∧ win0_1.index t (1 : Fin 2) = 0 :=
  (by decide +kernel : ∀ t : Fin grid0.N, _)
theorem idx_cb : ∀ t : Fin cfg0.N, win0_2.index t (0 : Fin 2) = 0 ∧ win0_2.index t (1 : Fin 2) = 0 :=
  (by decide +kernel : ∀ t : Fin grid0.N, _)

/-- The batch a grid point works on. -/
def batch (t : Fin cfg0.N) : Fin 8 := ⟨t.val, t.isLt⟩

theorem emb_kv (t : Fin cfg0.N) (h : Fin 8) (s : Fin 2048) (d : Fin 128) :
    ((cfg0.win 0).blk t).view.emb (ix4 0 h s d : S1x8x2048x128.Idx) = ix4 (batch t) h s d := by
  obtain ⟨e0, e1, e2, e3⟩ := idx_kv t
  funext a; apply Fin.ext
  match a with
  | ⟨0, _⟩ => show win0_0.index t (0 : Fin 4) * 1 + 1 * 0 = t.val; omega
  | ⟨1, _⟩ => show win0_0.index t (1 : Fin 4) * 8 + 1 * h.val = h.val; omega
  | ⟨2, _⟩ => show win0_0.index t (2 : Fin 4) * 2048 + 1 * s.val = s.val; omega
  | ⟨3, _⟩ => show win0_0.index t (3 : Fin 4) * 128 + 1 * d.val = d.val; omega

theorem emb_out (t : Fin cfg0.N) (h : Fin 8) (s : Fin 2048) (d : Fin 128) :
    ((cfg0.win 3).blk t).view.emb (ix4 0 h s d : S1x8x2048x128.Idx) = ix4 (batch t) h s d := by
  obtain ⟨e0, e1, e2, e3⟩ := idx_out t
  funext a; apply Fin.ext
  match a with
  | ⟨0, _⟩ => show win0_3.index t (0 : Fin 4) * 1 + 1 * 0 = t.val; omega
  | ⟨1, _⟩ => show win0_3.index t (1 : Fin 4) * 8 + 1 * h.val = h.val; omega
  | ⟨2, _⟩ => show win0_3.index t (2 : Fin 4) * 2048 + 1 * s.val = s.val; omega
  | ⟨3, _⟩ => show win0_3.index t (3 : Fin 4) * 128 + 1 * d.val = d.val; omega

theorem emb_R (t : Fin cfg0.N) (e k : Fin 128) :
    ((cfg0.win 1).blk t).view.emb (ix2 e k : S128x128.Idx) = ix2 e k := by
  obtain ⟨e0, e1⟩ := idx_R t
  funext a; apply Fin.ext
  match a with
  | ⟨0, _⟩ => show win0_1.index t (0 : Fin 2) * 128 + 1 * e.val = e.val; omega
  | ⟨1, _⟩ => show win0_1.index t (1 : Fin 2) * 128 + 1 * k.val = k.val; omega

theorem emb_cb (t : Fin cfg0.N) (k : Fin 2) :
    ((cfg0.win 2).blk t).view.emb (ix2 0 k : S1x2.Idx) = ix2 0 k := by
  obtain ⟨e0, e1⟩ := idx_cb t
  funext a; apply Fin.ext
  match a with
  | ⟨0, _⟩ => show win0_2.index t (0 : Fin 2) * 1 + 1 * 0 = 0; omega
  | ⟨1, _⟩ => show win0_2.index t (1 : Fin 2) * 2 + 1 * k.val = k.val; omega

/-- The states' block at point `t`, at an index: the states of batch `t`. -/
theorem kv_apply (c : Dev nD) (t : Fin cfg0.N) (h : Fin 8) (s : Fin 2048) (d : Fin 128) :
    iblk m c 0 t (ix4 0 h s d) = m ((c : Thread nD τ).loc main_arg0) (ix4 (batch t) h s d) := by
  show V m c main_arg0 (((cfg0.win 0).blk t).view.emb (ix4 0 h s d)) = _
  rw [emb_kv, V_main_arg0]

/-- The rotation's block, at an index: the rotation. -/
theorem R_apply (c : Dev nD) (t : Fin cfg0.N) (e k : Fin 128) :
    iblk m c 1 t (ix2 e k) = m ((c : Thread nD τ).loc main_arg1) (ix2 e k) := by
  show V m c main_arg1 (((cfg0.win 1).blk t).view.emb (ix2 e k)) = _
  rw [emb_R, V_main_arg1]

/-- The codebook reshaped to one row, as the region finds it. -/
theorem V_row (c : Dev nD) :
    V m c main_v0 = shapeCast S1x2 (m ((c : Thread nD τ).loc main_arg2)) shapeCasts_S2_S1x2 := by
  show StableHlo.after _ _ _ = _
  simp only [hostOps0, StableHlo.after, List.foldl]
  rfl

/-- Two numbers reshaped to one row, at an index. -/
theorem row_apply (x : Vec Ideal S2 .f32) (k : Fin 2) : shapeCast S1x2 x shapeCasts_S2_S1x2 (ix2 0 k) = x (ix1 k) := by
  pointwise

/-- The codebook's block, at an index: the codebook. -/
theorem cb_apply (c : Dev nD) (t : Fin cfg0.N) (k : Fin 2) :
    iblk m c 2 t (ix2 0 k) = m ((c : Thread nD τ).loc main_arg2) (ix1 k) := by
  show V m c main_v0 (((cfg0.win 2).blk t).view.emb (ix2 0 k)) = _
  rw [emb_cb, V_row]
  exact row_apply _ k

/-- What point `t` writes back is its block of the result array. -/
theorem flushed_eq (c : Dev nD) (t : Fin cfg0.N) :
    (dats m 0 c).flushed 3 t = ((cfg0.win 3).blk t).view.read (Elt Ideal)
      (resultOf (m ((c : Thread nD τ).loc main_arg0)) (m ((c : Thread nD τ).loc main_arg1)) (m ((c : Thread nD τ).loc main_arg2))) := by
  rw [flushed3_A, out_eq]
  funext (y : S1x8x2048x128.Idx)
  idx_vars y
  rw [Subsingleton.elim y0 0]
  show blockOf _ _ _ (ix4 0 y1 y2 y3) = resultOf _ _ _ (((cfg0.win 3).blk t).view.emb (ix4 0 y1 y2 y3))
  rw [emb_out]
  show result _ _ _ y1 y2 y3 = result _ _ _ y1 y2 y3
  simp only [kv_apply, R_apply, cb_apply]
  rfl

/-- Every index of the result array is in some point's block. -/
theorem covered (i : S8x8x2048x128.Idx) :
    ∃ t : Fin cfg0.N, (cfg0.win 3).flush t = true ∧ i ∈ ((cfg0.win 3).blk t).view.set := by
  idx_vars i
  refine ⟨(⟨i0.val, i0.isLt⟩ : Fin cfg0.N), flush0_3 _, ?_⟩
  have h := ((cfg0.win 3).blk (⟨i0.val, i0.isLt⟩ : Fin cfg0.N)).view.emb_mem_set (ix4 0 i1 i2 i3 : S1x8x2048x128.Idx)
  rwa [emb_out] at h

/-- The result array after the run is `resultOf` the arguments as launched. -/
theorem final (c : Dev nD) : (dats m 0 c).arrAt 3 cfg0.N
    = resultOf (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: it ends with the result array at `resultOf` the arguments, and the arguments as they were. -/
theorem run : θ_run defs (onTc (τ := τ) (main (F := Ideal))) ⟨m, fun _ => 0, ρ⟩ fun r => ∀ c : Dev nD,
      r.2.mem ((c : Thread nD τ).loc main_v1)
        = resultOf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Array

end
-- ==== Proof.RefRun.lean ====
/- What the reference program leaves behind. Its @main is written out as a list of host operations, cut into
   windows; each buffer that a later window reads has its contents stated as a term over the arguments' contents; and
   `run` says that every fair execution ends with the result buffer at its term and the arguments as they were. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v31`, named. It packs its operands into a list of dependent pairs
    whose shapes a later argument's type mentions, so `simp` cannot rewrite an operand where it stands; applied by
    name, the operands are plain arguments, which the window lemmas below rewrite before the name unfolds. -/
def fn_main_v31 : (⟨S8x0x2048x128, .f32⟩ : BufTy).Contents (Elt F) → (⟨S8x7x2048x128, .f32⟩ : BufTy).Contents (Elt F) → (⟨S8x7x2048x128, .f32⟩ : BufTy).Contents (Elt F) :=
  (fun a b => concatenate S8x7x2048x128 1 [⟨S8x0x2048x128, a⟩, ⟨S8x7x2048x128, b⟩] concatenates_S8x0x2048x128_S8x7x2048x128_S8x7x2048x128_d1)

/-- The function of the operation that writes `main_v57`, named. It packs its operands into a list of dependent pairs
    whose shapes a later argument's type mentions, so `simp` cannot rewrite an operand where it stands; applied by
    name, the operands are plain arguments, which the window lemmas below rewrite before the name unfolds. -/
def fn_main_v57 : (main_v55 : Ref sig .tc).ty.Contents (Elt F) → (main_v56 : Ref sig .tc).ty.Contents (Elt F) → (main_v54 : Ref sig .tc).ty.Contents (Elt F) → (main_v57 : Ref sig .tc).ty.Contents (Elt F) :=
  (fun u0 u1 u2 => (concatenate S8x8x2048x128 1 [⟨S8x0x2048x128, (u0 : (⟨S8x0x2048x128, .f32⟩ : BufTy).Contents (Elt F))⟩, ⟨S8x1x2048x128, (u1 : (⟨S8x1x2048x128, .f32⟩ : BufTy).Contents (Elt F))⟩, ⟨S8x7x2048x128, (u2 : (⟨S8x7x2048x128, .f32⟩ : BufTy).Contents (Elt F))⟩] concatenates_S8x0x2048x128_S8x1x2048x128_S8x7x2048x128_S8x8x2048x128_d1 : (⟨S8x8x2048x128, .f32⟩ : BufTy).Contents (Elt F)))

/-- @main's operations 1 … 30 of 101 (window `main_part0`). -/
abbrev ops_part0_0 : List (HloOp τ sig (Elt F)) :=
  [ unary main_arg0 main_v0 ((extractStridedSlice S8x1x2048x128 ![0, 0, 0, 0] · slices_S8x8x2048x128_S8x1x2048x128_0_0_0_0) : (⟨S8x8x2048x128, .f32⟩ : BufTy).Contents (Elt F) → (⟨S8x1x2048x128, .f32⟩ : BufTy).Contents (Elt F)),
    reshape main_v0 main_v1 (rfl : (.f32 : EltTy) = .f32) shapeCasts_S8x1x2048x128_S8x2048x128,
    reshape main_v1 main_v2 (rfl : (.f32 : EltTy) = .f32) shapeCasts_S8x2048x128_S16384x128,
    unary main_v2 main_v3 (Host.absf : (⟨S16384x128, .f32⟩ : BufTy).Contents (Elt F) → (⟨S16384x128, .f32⟩ : BufTy).Contents (Elt F)),
    nullary main_cst (constant S_ .f32 0xFF800000#32),
    binary main_v3 main_cst main_v4 ((fun x v => Host.reduce FloatOps.maximumf x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v4 main_v5 (broadcastInDim S16384x1 ![0] bcast_S16384_S16384x1_0 : (⟨S16384, .f32⟩ : BufTy).Contents (Elt F) → (⟨S16384x1, .f32⟩ : BufTy).Contents (Elt F)),
    nullary main_cst_0 (constant S_ .f32 0x322BCC77#32),
    unary main_cst_0 main_v6 (broadcastInDim S16384x1 ![] bcast_S_S16384x1 : (⟨S_, .f32⟩ : BufTy).Contents (Elt F) → (⟨S16384x1, .f32⟩ : BufTy).Contents (Elt F)),
    binary main_v5 main_v6 main_v7 (addf : (⟨S16384x1, .f32⟩ : BufTy).Contents (Elt F) → (⟨S16384x1, .f32⟩ : BufTy).Contents (Elt F) → (⟨S16384x1, .f32⟩ : BufTy).Contents (Elt F)),
    unary main_v7 main_v8 (broadcastInDim S16384x128 ![0, 1] bcast_S16384x1_S16384x128_0_1 : (⟨S16384x1, .f32⟩ : BufTy).Contents (Elt F) → (⟨S16384x128, .f32⟩ : BufTy).Contents (Elt F)),
    binary main_v2 main_v8 main_v9 (Host.divf : (⟨S16384x128, .f32⟩ : BufTy).Contents (Elt F) → (⟨S16384x128, .f32⟩ : BufTy).Contents (Elt F) → (⟨S16384x128, .f32⟩ : BufTy).Contents (Elt F)),
    nullary main_cst_1 (constant S_ .f32 0xBF800000#32),
    nullary main_cst_2 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S16384x128, .f32⟩) main_call0_v1) (broadcastInDim S16384x128 ![] bcast_S_S16384x128),
    TRef.binary (TRef.of (T := ⟨S16384x128, .f32⟩) main_call0_v1) (TRef.of (T := ⟨S16384x128, .f32⟩) main_v9) (TRef.of (T := ⟨S16384x128, .f32⟩) main_call0_v2) maximumf,
    TRef.unary (TRef.of (T := ⟨S_, .f32⟩) main_cst_2) (TRef.of (T := ⟨S_, .f32⟩) main_call0_v3) id,
    TRef.unary (TRef.of (T := ⟨S_, .f32⟩) main_call0_v3) (TRef.of (T := ⟨S16384x128, .f32⟩) main_call0_v4) (broadcastInDim S16384x128 ![] bcast_S_S16384x128),
    TRef.binary (TRef.of (T := ⟨S16384x128, .f32⟩) main_call0_v4) (TRef.of (T := ⟨S16384x128, .f32⟩) main_call0_v2) (TRef.of (T := ⟨S16384x128, .f32⟩) main_v10) minimumf,
    nullary main_cst_3 (constant S_ .f32 0x40400000#32),
    unary main_cst_3 main_v11 (broadcastInDim S16384x128 ![] bcast_S_S16384x128 : (⟨S_, .f32⟩ : BufTy).Contents (Elt F) → (⟨S16384x128, .f32⟩ : BufTy).Contents (Elt F)),
    binary main_v10 main_v11 main_v12 (mulf : (⟨S16384x128, .f32⟩ : BufTy).Contents (Elt F) → (⟨S16384x128, .f32⟩ : BufTy).Contents (Elt F) → (⟨S16384x128, .f32⟩ : BufTy).Contents (Elt F)),
    TRef.unary (TRef.of (T := ⟨S16384x128, .f32⟩) main_v12) (TRef.of (T := ⟨S16384x128, .f32⟩) main_v13) Host.roundeven,
    nullary main_cst_4 (constant S_ .f32 0x40400000#32),
    unary main_cst_4 main_v14 (broadcastInDim S16384x128 ![] bcast_S_S16384x128 : (⟨S_, .f32⟩ : BufTy).Contents (Elt F) → (⟨S16384x128, .f32⟩ : BufTy).Contents (Elt F)),
    binary main_v13 main_v14 main_v15 (Host.divf : (⟨S16384x128, .f32⟩ : BufTy).Contents (Elt F) → (⟨S16384x128, .f32⟩ : BufTy).Contents (Elt F) → (⟨S16384x128, .f32⟩ : BufTy).Contents (Elt F)),
    unary main_v7 main_v16 (broadcastInDim S16384x128 ![0, 1] bcast_S16384x1_S16384x128_0_1 : (⟨S16384x1, .f32⟩ : BufTy).Contents (Elt F) → (⟨S16384x128, .f32⟩ : BufTy).Contents (Elt F)),
    binary main_v15 main_v16 main_v17 (mulf : (⟨S16384x128, .f32⟩ : BufTy).Contents (Elt F) → (⟨S16384x128, .f32⟩ : BufTy).Contents (Elt F) → (⟨S16384x128, .f32⟩ : BufTy).Contents (Elt F)),
    binary main_v2 main_v17 main_v18 (subf : (⟨S16384x128, .f32⟩ : BufTy).Contents (Elt F) → (⟨S16384x128, .f32⟩ : BufTy).Contents (Elt F) → (⟨S16384x128, .f32⟩ : BufTy).Contents (Elt F)) ]

/-- @main's operations 31 … 60 of 101 (window `main_part0`). -/
abbrev ops_part0_1 : List (HloOp τ sig (Elt F)) :=
  [ unary main_v18 main_v19 (Host.absf : (⟨S16384x128, .f32⟩ : BufTy).Contents (Elt F) → (⟨S16384x128, .f32⟩ : BufTy).Contents (Elt F)),
    nullary main_cst_5 (constant S_ .f32 0x00000000#32),
    binary main_v19 main_cst_5 main_v20 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v20 main_v21 (broadcastInDim S16384x1 ![0] bcast_S16384_S16384x1_0 : (⟨S16384, .f32⟩ : BufTy).Contents (Elt F) → (⟨S16384x1, .f32⟩ : BufTy).Contents (Elt F)),
    nullary main_cst_6 (constant S_ .f32 0x43000000#32),
    unary main_cst_6 main_v22 (broadcastInDim S16384x1 ![] bcast_S_S16384x1 : (⟨S_, .f32⟩ : BufTy).Contents (Elt F) → (⟨S16384x1, .f32⟩ : BufTy).Contents (Elt F)),
    binary main_v21 main_v22 main_v23 (Host.divf : (⟨S16384x1, .f32⟩ : BufTy).Contents (Elt F) → (⟨S16384x1, .f32⟩ : BufTy).Contents (Elt F) → (⟨S16384x1, .f32⟩ : BufTy).Contents (Elt F)),
    unary main_v18 main_v24 (Host.sign : (⟨S16384x128, .f32⟩ : BufTy).Contents (Elt F) → (⟨S16384x128, .f32⟩ : BufTy).Contents (Elt F)),
    unary main_v23 main_v25 (broadcastInDim S16384x128 ![0, 1] bcast_S16384x1_S16384x128_0_1 : (⟨S16384x1, .f32⟩ : BufTy).Contents (Elt F) → (⟨S16384x128, .f32⟩ : BufTy).Contents (Elt F)),
    binary main_v25 main_v24 main_v26 (mulf : (⟨S16384x128, .f32⟩ : BufTy).Contents (Elt F) → (⟨S16384x128, .f32⟩ : BufTy).Contents (Elt F) → (⟨S16384x128, .f32⟩ : BufTy).Contents (Elt F)),
    binary main_v17 main_v26 main_v27 (addf : (⟨S16384x128, .f32⟩ : BufTy).Contents (Elt F) → (⟨S16384x128, .f32⟩ : BufTy).Contents (Elt F) → (⟨S16384x128, .f32⟩ : BufTy).Contents (Elt F)),
    reshape main_v27 main_v28 (rfl : (.f32 : EltTy) = .f32) shapeCasts_S16384x128_S8x2048x128,
    unary main_arg0 main_v29 ((extractStridedSlice S8x0x2048x128 ![0, 0, 0, 0] · slices_S8x8x2048x128_S8x0x2048x128_0_0_0_0) : (⟨S8x8x2048x128, .f32⟩ : BufTy).Contents (Elt F) → (⟨S8x0x2048x128, .f32⟩ : BufTy).Contents (Elt F)),
    unary main_arg0 main_v30 ((extractStridedSlice S8x7x2048x128 ![0, 1, 0, 0] · slices_S8x8x2048x128_S8x7x2048x128_0_1_0_0) : (⟨S8x8x2048x128, .f32⟩ : BufTy).Contents (Elt F) → (⟨S8x7x2048x128, .f32⟩ : BufTy).Contents (Elt F)),
    binary main_v29 main_v30 main_v31 (fn_main_v31 (F := F)),
    unary main_v28 main_v32 (broadcastInDim S8x1x2048x128 ![0, 2, 3] bcast_S8x2048x128_S8x1x2048x128_0_2_3 : (⟨S8x2048x128, .f32⟩ : BufTy).Contents (Elt F) → (⟨S8x1x2048x128, .f32⟩ : BufTy).Contents (Elt F)),
    unary main_v32 main_v33 (broadcastInDim S8x7x2048x128 ![0, 1, 2, 3] bcast_S8x1x2048x128_S8x7x2048x128_0_1_2_3 : (⟨S8x1x2048x128, .f32⟩ : BufTy).Contents (Elt F) → (⟨S8x7x2048x128, .f32⟩ : BufTy).Contents (Elt F)),
    binary main_v31 main_v33 main_v34 (subf : (⟨S8x7x2048x128, .f32⟩ : BufTy).Contents (Elt F) → (⟨S8x7x2048x128, .f32⟩ : BufTy).Contents (Elt F) → (⟨S8x7x2048x128, .f32⟩ : BufTy).Contents (Elt F)),
    TRef.binary (TRef.of (T := ⟨S8x7x2048x128, .f32⟩) main_v34) (TRef.of (T := ⟨S8x7x2048x128, .f32⟩) main_v34) (TRef.of (T := ⟨S8x7x2048x128, .f32⟩) main_call2_v0) mulf,
    TRef.nullary (TRef.of (T := ⟨S_, .f32⟩) main_call2_cst) (constant S_ .f32 0x00000000#32),
    TRef.binary (TRef.of (T := ⟨S8x7x2048x128, .f32⟩) main_call2_v0) (TRef.of (T := ⟨S_, .f32⟩) main_call2_cst) (TRef.of (T := ⟨S8x7x2048, .f32⟩) main_call2_v1) (fun x v => Host.reduceAdd x v reducesTo_S8x7x2048x128_S8x7x2048_d3 h_S_),
    TRef.unary (TRef.of (T := ⟨S8x7x2048, .f32⟩) main_call2_v1) (TRef.of (T := ⟨S8x7x2048x1, .f32⟩) main_call2_v2) (broadcastInDim S8x7x2048x1 ![0, 1, 2] bcast_S8x7x2048_S8x7x2048x1_0_1_2),
    TRef.unary (TRef.of (T := ⟨S8x7x2048x1, .f32⟩) main_call2_v2) (TRef.of (T := ⟨S8x7x2048x1, .f32⟩) main_v35) Host.sqrt,
    nullary main_cst_7 (constant S_ .f32 0x322BCC77#32),
    unary main_cst_7 main_v36 (broadcastInDim S8x7x2048x1 ![] bcast_S_S8x7x2048x1 : (⟨S_, .f32⟩ : BufTy).Contents (Elt F) → (⟨S8x7x2048x1, .f32⟩ : BufTy).Contents (Elt F)),
    binary main_v35 main_v36 main_v37 (addf : (⟨S8x7x2048x1, .f32⟩ : BufTy).Contents (Elt F) → (⟨S8x7x2048x1, .f32⟩ : BufTy).Contents (Elt F) → (⟨S8x7x2048x1, .f32⟩ : BufTy).Contents (Elt F)),
    unary main_v37 main_v38 (broadcastInDim S8x7x2048x128 ![0, 1, 2, 3] bcast_S8x7x2048x1_S8x7x2048x128_0_1_2_3 : (⟨S8x7x2048x1, .f32⟩ : BufTy).Contents (Elt F) → (⟨S8x7x2048x128, .f32⟩ : BufTy).Contents (Elt F)),
    binary main_v34 main_v38 main_v39 (Host.divf : (⟨S8x7x2048x128, .f32⟩ : BufTy).Contents (Elt F) → (⟨S8x7x2048x128, .f32⟩ : BufTy).Contents (Elt F) → (⟨S8x7x2048x128, .f32⟩ : BufTy).Contents (Elt F)),
    binary main_v39 main_arg1 main_v40 ((fun l r => Host.dotGeneral dot_S8x7x2048x128_S128x128_S8x7x2048x128_3_1_012_0_n_n none l r) : (⟨S8x7x2048x128, .f32⟩ : BufTy).Contents (Elt F) → (⟨S128x128, .f32⟩ : BufTy).Contents (Elt F) → (⟨S8x7x2048x128, .f32⟩ : BufTy).Contents (Elt F)),
    unary main_v40 main_v41 (broadcastInDim S8x7x2048x128x1 ![0, 1, 2, 3] bcast_S8x7x2048x128_S8x7x2048x128x1_0_1_2_3 : (⟨S8x7x2048x128, .f32⟩ : BufTy).Contents (Elt F) → (⟨S8x7x2048x128x1, .f32⟩ : BufTy).Contents (Elt F)) ]

/-- @main's operations 61 … 90 of 101 (window `main_part0`). -/
abbrev ops_part0_2 : List (HloOp τ sig (Elt F)) :=
  [ unary main_arg2 main_v42 (broadcastInDim S1x1x1x1x2 ![4] bcast_S2_S1x1x1x1x2_4 : (⟨S2, .f32⟩ : BufTy).Contents (Elt F) → (⟨S1x1x1x1x2, .f32⟩ : BufTy).Contents (Elt F)),
    unary main_v41 main_v43 (broadcastInDim S8x7x2048x128x2 ![0, 1, 2, 3, 4] bcast_S8x7x2048x128x1_S8x7x2048x128x2_0_1_2_3_4 : (⟨S8x7x2048x128x1, .f32⟩ : BufTy).Contents (Elt F) → (⟨S8x7x2048x128x2, .f32⟩ : BufTy).Contents (Elt F)),
    unary main_v42 main_v44 (broadcastInDim S8x7x2048x128x2 ![0, 1, 2, 3, 4] bcast_S1x1x1x1x2_S8x7x2048x128x2_0_1_2_3_4 : (⟨S1x1x1x1x2, .f32⟩ : BufTy).Contents (Elt F) → (⟨S8x7x2048x128x2, .f32⟩ : BufTy).Contents (Elt F)),
    binary main_v43 main_v44 main_v45 (subf : (⟨S8x7x2048x128x2, .f32⟩ : BufTy).Contents (Elt F) → (⟨S8x7x2048x128x2, .f32⟩ : BufTy).Contents (Elt F) → (⟨S8x7x2048x128x2, .f32⟩ : BufTy).Contents (Elt F)),
    unary main_v45 main_v46 (Host.absf : (⟨S8x7x2048x128x2, .f32⟩ : BufTy).Contents (Elt F) → (⟨S8x7x2048x128x2, .f32⟩ : BufTy).Contents (Elt F)),
    TRef.nullary (TRef.of (T := ⟨S8x7x2048x128x2, .i32⟩) main_call3_v0) (iotaInDim S8x7x2048x128x2 32 4),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S8x7x2048x128x2, .f32⟩) main_v46) (TRef.of (T := ⟨S8x7x2048x128x2, .i32⟩) main_call3_v0) (TRef.of (T := ⟨S_, .f32⟩) main_call3_cst) (TRef.of (T := ⟨S_, .i32⟩) main_call3_c) (TRef.of (T := ⟨S8x7x2048x128, .f32⟩) main_call3_v1_0) (fun x y u v j => (Host.argReduce reducer_argmin_f32_i32 x y u v reducesTo_S8x7x2048x128x2_S8x7x2048x128_d4 h_S_ j).1),
    TRef.quaternary (TRef.of (T := ⟨S8x7x2048x128x2, .f32⟩) main_v46) (TRef.of (T := ⟨S8x7x2048x128x2, .i32⟩) main_call3_v0) (TRef.of (T := ⟨S_, .f32⟩) main_call3_cst) (TRef.of (T := ⟨S_, .i32⟩) main_call3_c) (TRef.of (T := ⟨S8x7x2048x128, .i32⟩) main_v47) (fun x y u v j => (Host.argReduce reducer_argmin_f32_i32 x y u v reducesTo_S8x7x2048x128x2_S8x7x2048x128_d4 h_S_ j).2),
    TRef.nullary (TRef.of (T := ⟨S_, .i32⟩) main_call4_c) (constantI S_ 32 0#32),
    TRef.unary (TRef.of (T := ⟨S_, .i32⟩) main_call4_c) (TRef.of (T := ⟨S8x7x2048x128, .i32⟩) main_call4_v0) (broadcastInDim S8x7x2048x128 ![] bcast_S_S8x7x2048x128),
    TRef.binary (TRef.of (T := ⟨S8x7x2048x128, .i32⟩) main_v47) (TRef.of (T := ⟨S8x7x2048x128, .i32⟩) main_call4_v0) (TRef.of (T := ⟨S8x7x2048x128, .i1⟩) main_call4_v1) (cmpi .slt),
    TRef.nullary (TRef.of (T := ⟨S_, .i32⟩) main_call4_c_0) (constantI S_ 32 2#32),
    TRef.unary (TRef.of (T := ⟨S_, .i32⟩) main_call4_c_0) (TRef.of (T := ⟨S8x7x2048x128, .i32⟩) main_call4_v2) (broadcastInDim S8x7x2048x128 ![] bcast_S_S8x7x2048x128),
    TRef.binary (TRef.of (T := ⟨S8x7x2048x128, .i32⟩) main_v47) (TRef.of (T := ⟨S8x7x2048x128, .i32⟩) main_call4_v2) (TRef.of (T := ⟨S8x7x2048x128, .i32⟩) main_call4_v3) addi,
    TRef.ternary (TRef.of (T := ⟨S8x7x2048x128, .i1⟩) main_call4_v1) (TRef.of (T := ⟨S8x7x2048x128, .i32⟩) main_call4_v3) (TRef.of (T := ⟨S8x7x2048x128, .i32⟩) main_v47) (TRef.of (T := ⟨S8x7x2048x128, .i32⟩) main_call4_v4) select,
    TRef.unary (TRef.of (T := ⟨S8x7x2048x128, .i32⟩) main_call4_v4) (TRef.of (T := ⟨S8x7x2048x128x1, .i32⟩) main_call4_v5) (broadcastInDim S8x7x2048x128x1 ![0, 1, 2, 3] bcast_S8x7x2048x128_S8x7x2048x128x1_0_1_2_3),
    TRef.nullary (TRef.of (T := ⟨S1, .i32⟩) main_call4_c_1) (constantI S1 32 1#32),
    TRef.nullary (TRef.of (T := ⟨S_, .i32⟩) main_call4_c_2) (constantI S_ 32 0#32),
    TRef.unary (TRef.of (T := ⟨S_, .i32⟩) main_call4_c_2) (TRef.of (T := ⟨S8x7x2048x128x1, .i32⟩) main_call4_v6) (broadcastInDim S8x7x2048x128x1 ![] bcast_S_S8x7x2048x128x1),
    TRef.binary (TRef.of (T := ⟨S8x7x2048x128x1, .i32⟩) main_call4_v5) (TRef.of (T := ⟨S8x7x2048x128x1, .i32⟩) main_call4_v6) (TRef.of (T := ⟨S8x7x2048x128x1, .i1⟩) main_call4_v7) (cmpi .sge),
    TRef.unary (TRef.of (T := ⟨S1, .i32⟩) main_call4_c_1) (TRef.of (T := ⟨S1x1x1x1x1, .i32⟩) main_call4_v8) (broadcastInDim S1x1x1x1x1 ![4] bcast_S1_S1x1x1x1x1_4),
    TRef.unary (TRef.of (T := ⟨S1x1x1x1x1, .i32⟩) main_call4_v8) (TRef.of (T := ⟨S8x7x2048x128x1, .i32⟩) main_call4_v9) (broadcastInDim S8x7x2048x128x1 ![0, 1, 2, 3, 4] bcast_S1x1x1x1x1_S8x7x2048x128x1_0_1_2_3_4),
    TRef.binary (TRef.of (T := ⟨S8x7x2048x128x1, .i32⟩) main_call4_v5) (TRef.of (T := ⟨S8x7x2048x128x1, .i32⟩) main_call4_v9) (TRef.of (T := ⟨S8x7x2048x128x1, .i1⟩) main_call4_v10) (cmpi .sle),
    TRef.binary (TRef.of (T := ⟨S8x7x2048x128x1, .i1⟩) main_call4_v7) (TRef.of (T := ⟨S8x7x2048x128x1, .i1⟩) main_call4_v10) (TRef.of (T := ⟨S8x7x2048x128x1, .i1⟩) main_call4_v11) andi,
    TRef.nullary (TRef.of (T := ⟨S_, .i1⟩) main_call4_c_3) (constantI S_ 1 1#1),
    TRef.binary (TRef.of (T := ⟨S8x7x2048x128x1, .i1⟩) main_call4_v11) (TRef.of (T := ⟨S_, .i1⟩) main_call4_c_3) (TRef.of (T := ⟨S8x7x2048x128, .i1⟩) main_call4_v12) (fun x v => Host.reduce IntOp.andi x v reducesTo_S8x7x2048x128x1_S8x7x2048x128_d4 h_S_),
    TRef.binary (TRef.of (T := ⟨S2, .f32⟩) main_arg2) (TRef.of (T := ⟨S8x7x2048x128x1, .i32⟩) main_call4_v5) (TRef.of (T := ⟨S8x7x2048x128, .f32⟩) main_call4_v13) (fun x i => Host.gather gather_S2_S8x7x2048x128x1_S8x7x2048x128_n_0_n_n_0_4_1 x i),
    TRef.nullary (TRef.of (T := ⟨S_, .f32⟩) main_call4_cst) (constant S_ .f32 0x7FC00000#32) ]

/-- @main's operations 91 … 94 of 101 (window `main_part0`). -/
abbrev ops_part0_3 : List (HloOp τ sig (Elt F)) :=
  [ TRef.unary (TRef.of (T := ⟨S_, .f32⟩) main_call4_cst) (TRef.of (T := ⟨S8x7x2048x128, .f32⟩) main_call4_v14) (broadcastInDim S8x7x2048x128 ![] bcast_S_S8x7x2048x128),
    TRef.ternary (TRef.of (T := ⟨S8x7x2048x128, .i1⟩) main_call4_v12) (TRef.of (T := ⟨S8x7x2048x128, .f32⟩) main_call4_v13) (TRef.of (T := ⟨S8x7x2048x128, .f32⟩) main_call4_v14) (TRef.of (T := ⟨S8x7x2048x128, .f32⟩) main_v48) select,
    binary main_v48 main_arg1 main_v49 ((fun l r => Host.dotGeneral dot_S8x7x2048x128_S128x128_S8x7x2048x128_3_0_012_1_n_n none l r) : (⟨S8x7x2048x128, .f32⟩ : BufTy).Contents (Elt F) → (⟨S128x128, .f32⟩ : BufTy).Contents (Elt F) → (⟨S8x7x2048x128, .f32⟩ : BufTy).Contents (Elt F)),
    unary main_v28 main_v50 (broadcastInDim S8x1x2048x128 ![0, 2, 3] bcast_S8x2048x128_S8x1x2048x128_0_2_3 : (⟨S8x2048x128, .f32⟩ : BufTy).Contents (Elt F) → (⟨S8x1x2048x128, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 95 … 101 of 101 (window `main_part1`). -/
abbrev ops_part1 : List (HloOp τ sig (Elt F)) :=
  [ unary main_v35 main_v51 (broadcastInDim S8x7x2048x128 ![0, 1, 2, 3] bcast_S8x7x2048x1_S8x7x2048x128_0_1_2_3 : (⟨S8x7x2048x1, .f32⟩ : BufTy).Contents (Elt F) → (⟨S8x7x2048x128, .f32⟩ : BufTy).Contents (Elt F)),
    binary main_v49 main_v51 main_v52 (mulf : (⟨S8x7x2048x128, .f32⟩ : BufTy).Contents (Elt F) → (⟨S8x7x2048x128, .f32⟩ : BufTy).Contents (Elt F) → (⟨S8x7x2048x128, .f32⟩ : BufTy).Contents (Elt F)),
    unary main_v50 main_v53 (broadcastInDim S8x7x2048x128 ![0, 1, 2, 3] bcast_S8x1x2048x128_S8x7x2048x128_0_1_2_3 : (⟨S8x1x2048x128, .f32⟩ : BufTy).Contents (Elt F) → (⟨S8x7x2048x128, .f32⟩ : BufTy).Contents (Elt F)),
    binary main_v53 main_v52 main_v54 (addf : (⟨S8x7x2048x128, .f32⟩ : BufTy).Contents (Elt F) → (⟨S8x7x2048x128, .f32⟩ : BufTy).Contents (Elt F) → (⟨S8x7x2048x128, .f32⟩ : BufTy).Contents (Elt F)),
    unary main_v54 main_v55 ((extractStridedSlice S8x0x2048x128 ![0, 0, 0, 0] · slices_S8x7x2048x128_S8x0x2048x128_0_0_0_0) : (⟨S8x7x2048x128, .f32⟩ : BufTy).Contents (Elt F) → (⟨S8x0x2048x128, .f32⟩ : BufTy).Contents (Elt F)),
    unary main_v28 main_v56 (broadcastInDim S8x1x2048x128 ![0, 2, 3] bcast_S8x2048x128_S8x1x2048x128_0_2_3 : (⟨S8x2048x128, .f32⟩ : BufTy).Contents (Elt F) → (⟨S8x1x2048x128, .f32⟩ : BufTy).Contents (Elt F)),
    nary ![main_v55, main_v56, main_v54] main_v57 (fun u => fn_main_v57 (F := F) (u 0) (u 1) (u 2)) ]

/-- @main's 101 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., reshape_bufs_sub .., reshape_bufs_sub .., unary_bufs_sub .., nullary_bufs_sub .., binary_bufs_sub .., unary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., unary_bufs_sub .., unary_bufs_sub .., binary_bufs_sub .., binary_bufs_sub .., reshape_bufs_sub .., unary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., unary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨unary_bufs_sub .., ternary_bufs_sub .., binary_bufs_sub .., unary_bufs_sub ..⟩
set_option maxRecDepth 8192 in
theorem ops_part0_3_fresh : (ops_part0_3 : List (HloOp τ sig (Elt F))).Forall fun op => op.fresh = ∅ :=
  ⟨rfl, rfl, rfl, rfl⟩
set_option maxRecDepth 8192 in
theorem ops_part1_sub : (ops_part1 : List (HloOp τ sig (Elt F))).Forall fun op => op.bufs ⊆ tcRefs τ sig :=
  ⟨unary_bufs_sub .., binary_bufs_sub .., unary_bufs_sub .., binary_bufs_sub .., unary_bufs_sub .., unary_bufs_sub .., nary_bufs_sub ..⟩
set_option maxRecDepth 8192 in
theorem ops_part1_fresh : (ops_part1 : List (HloOp τ sig (Elt F))).Forall fun op => op.fresh = ∅ :=
  ⟨rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_fresh op h]

set_option maxRecDepth 8192 in
/-- `main_v2`'s composed term of the arguments (named: it is used 3 times). -/
def res_main_v2 (V0 : Valuation τ sig (Elt F)) : (Proc.devRef .tc main_v2 : DevRef τ sig).ty.Contents (Elt F) :=
  shapeCast _ (shapeCast _ (extractStridedSlice S8x1x2048x128 ![0, 0, 0, 0] (V0 (Proc.devRef .tc main_arg0)) slices_S8x8x2048x128_S8x1x2048x128_0_0_0_0) shapeCasts_S8x1x2048x128_S8x2048x128) shapeCasts_S8x2048x128_S16384x128

set_option maxRecDepth 8192 in
/-- `main_v7`'s composed term of the arguments (named: it is used 2 times). -/
def res_main_v7 (V0 : Valuation τ sig (Elt F)) : (Proc.devRef .tc main_v7 : DevRef τ sig).ty.Contents (Elt F) :=
  addf (broadcastInDim S16384x1 ![0] bcast_S16384_S16384x1_0 (Host.reduce FloatOps.maximumf (Host.absf (res_main_v2 V0)) (constant S_ .f32 0xFF800000#32) reducesTo_S16384x128_S16384_d1 h_S_)) (broadcastInDim S16384x1 ![] bcast_S_S16384x1 (constant S_ .f32 0x322BCC77#32))

set_option maxRecDepth 8192 in
/-- `main_v17`'s composed term of the arguments (named: it is used 2 times). -/
def res_main_v17 (V0 : Valuation τ sig (Elt F)) : (Proc.devRef .tc main_v17 : DevRef τ sig).ty.Contents (Elt F) :=
  mulf (Host.divf (Host.roundeven (mulf (minimumf (broadcastInDim S16384x128 ![] bcast_S_S16384x128 (id (constant S_ .f32 0x3F800000#32))) (maximumf (broadcastInDim S16384x128 ![] bcast_S_S16384x128 (id (constant S_ .f32 0xBF800000#32))) (Host.divf (res_main_v2 V0) (broadcastInDim S16384x128 ![0, 1] bcast_S16384x1_S16384x128_0_1 (res_main_v7 V0))))) (broadcastInDim S16384x128 ![] bcast_S_S16384x128 (constant S_ .f32 0x40400000#32)))) (broadcastInDim S16384x128 ![] bcast_S_S16384x128 (constant S_ .f32 0x40400000#32))) (broadcastInDim S16384x128 ![0, 1] bcast_S16384x1_S16384x128_0_1 (res_main_v7 V0))

set_option maxRecDepth 8192 in
/-- `main_v18`'s composed term of the arguments (named: it is used 2 times). -/
def res_main_v18 (V0 : Valuation τ sig (Elt F)) : (Proc.devRef .tc main_v18 : DevRef τ sig).ty.Contents (Elt F) :=
  subf (res_main_v2 V0) (res_main_v17 V0)

set_option maxRecDepth 8192 in
/-- `main_v28`'s composed term of the arguments (named: it is used 3 times). -/
def res_main_v28 (V0 : Valuation τ sig (Elt F)) : (Proc.devRef .tc main_v28 : DevRef τ sig).ty.Contents (Elt F) :=
  shapeCast _ (addf (res_main_v17 V0) (mulf (broadcastInDim S16384x128 ![0, 1] bcast_S16384x1_S16384x128_0_1 (Host.divf (broadcastInDim S16384x1 ![0] bcast_S16384_S16384x1_0 (Host.reduceAdd (Host.absf (res_main_v18 V0)) (constant S_ .f32 0x00000000#32) reducesTo_S16384x128_S16384_d1 h_S_)) (broadcastInDim S16384x1 ![] bcast_S_S16384x1 (constant S_ .f32 0x43000000#32)))) (Host.sign (res_main_v18 V0)))) shapeCasts_S16384x128_S8x2048x128

set_option maxRecDepth 8192 in
/-- `main_v34`'s composed term of the arguments (named: it is used 3 times). -/
def res_main_v34 (V0 : Valuation τ sig (Elt F)) : (Proc.devRef .tc main_v34 : DevRef τ sig).ty.Contents (Elt F) :=
  subf (concatenate S8x7x2048x128 1 [⟨S8x0x2048x128, (extractStridedSlice S8x0x2048x128 ![0, 0, 0, 0] (V0 (Proc.devRef .tc main_arg0)) slices_S8x8x2048x128_S8x0x2048x128_0_0_0_0)⟩, ⟨S8x7x2048x128, (extractStridedSlice S8x7x2048x128 ![0, 1, 0, 0] (V0 (Proc.devRef .tc main_arg0)) slices_S8x8x2048x128_S8x7x2048x128_0_1_0_0)⟩] concatenates_S8x0x2048x128_S8x7x2048x128_S8x7x2048x128_d1) (broadcastInDim S8x7x2048x128 ![0, 1, 2, 3] bcast_S8x1x2048x128_S8x7x2048x128_0_1_2_3 (broadcastInDim S8x1x2048x128 ![0, 2, 3] bcast_S8x2048x128_S8x1x2048x128_0_2_3 (res_main_v28 V0)))

set_option maxRecDepth 8192 in
/-- `main_v35`'s composed term of the arguments (named: it is used 2 times). -/
def res_main_v35 (V0 : Valuation τ sig (Elt F)) : (Proc.devRef .tc main_v35 : DevRef τ sig).ty.Contents (Elt F) :=
  Host.sqrt (broadcastInDim S8x7x2048x1 ![0, 1, 2] bcast_S8x7x2048_S8x7x2048x1_0_1_2 (Host.reduceAdd (mulf (res_main_v34 V0) (res_main_v34 V0)) (constant S_ .f32 0x00000000#32) reducesTo_S8x7x2048x128_S8x7x2048_d3 h_S_))

set_option maxRecDepth 8192 in
/-- `main_v46`'s composed term of the arguments (named: it is used 2 times). -/
def res_main_v46 (V0 : Valuation τ sig (Elt F)) : (Proc.devRef .tc main_v46 : DevRef τ sig).ty.Contents (Elt F) :=
  Host.absf (subf (broadcastInDim S8x7x2048x128x2 ![0, 1, 2, 3, 4] bcast_S8x7x2048x128x1_S8x7x2048x128x2_0_1_2_3_4 (broadcastInDim S8x7x2048x128x1 ![0, 1, 2, 3] bcast_S8x7x2048x128_S8x7x2048x128x1_0_1_2_3 (Host.dotGeneral dot_S8x7x2048x128_S128x128_S8x7x2048x128_3_1_012_0_n_n none (Host.divf (res_main_v34 V0) (broadcastInDim S8x7x2048x128 ![0, 1, 2, 3] bcast_S8x7x2048x1_S8x7x2048x128_0_1_2_3 (addf (res_main_v35 V0) (broadcastInDim S8x7x2048x1 ![] bcast_S_S8x7x2048x1 (constant S_ .f32 0x322BCC77#32))))) (V0 (Proc.devRef .tc main_arg1))))) (broadcastInDim S8x7x2048x128x2 ![0, 1, 2, 3, 4] bcast_S1x1x1x1x2_S8x7x2048x128x2_0_1_2_3_4 (broadcastInDim S1x1x1x1x2 ![4] bcast_S2_S1x1x1x1x2_4 (V0 (Proc.devRef .tc main_arg2)))))

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  iotaInDim S8x7x2048x128x2 32 4

set_option maxRecDepth 8192 in
/-- `main_call3_cst`'s composed term of the arguments (named: it is used 2 times). -/
def res_main_call3_cst (V0 : Valuation τ sig (Elt F)) : (Proc.devRef .tc main_call3_cst : DevRef τ sig).ty.Contents (Elt F) :=
  constant S_ .f32 0x7F800000#32

set_option maxRecDepth 8192 in
/-- `main_call3_c`'s composed term of the arguments (named: it is used 2 times). -/
def res_main_call3_c (V0 : Valuation τ sig (Elt F)) : (Proc.devRef .tc main_call3_c : DevRef τ sig).ty.Contents (Elt F) :=
  constantI S_ 32 0#32

set_option maxRecDepth 8192 in
/-- `main_v47`'s composed term of the arguments (named: it is used 3 times). -/
def res_main_v47 (V0 : Valuation τ sig (Elt F)) : (Proc.devRef .tc main_v47 : DevRef τ sig).ty.Contents (Elt F) :=
  fun j => ((Host.argReduce reducer_argmin_f32_i32 (res_main_v46 V0) (res_main_call3_v0 V0) (res_main_call3_cst V0) (res_main_call3_c V0) reducesTo_S8x7x2048x128x2_S8x7x2048x128_d4 h_S_ j).2)

set_option maxRecDepth 8192 in
/-- `main_call4_v5`'s composed term of the arguments (named: it is used 3 times). -/
def res_main_call4_v5 (V0 : Valuation τ sig (Elt F)) : (Proc.devRef .tc main_call4_v5 : DevRef τ sig).ty.Contents (Elt F) :=
  broadcastInDim S8x7x2048x128x1 ![0, 1, 2, 3] bcast_S8x7x2048x128_S8x7x2048x128x1_0_1_2_3 (select (cmpi .slt (res_main_v47 V0) (broadcastInDim S8x7x2048x128 ![] bcast_S_S8x7x2048x128 (constantI S_ 32 0#32))) (addi (res_main_v47 V0) (broadcastInDim S8x7x2048x128 ![] bcast_S_S8x7x2048x128 (constantI S_ 32 2#32))) (res_main_v47 V0))

set_option maxRecDepth 8192 in
/-- `main_v54`'s composed term of the arguments (named: it is used 2 times). -/
def res_main_v54 (V0 : Valuation τ sig (Elt F)) : (Proc.devRef .tc main_v54 : DevRef τ sig).ty.Contents (Elt F) :=
  addf (broadcastInDim S8x7x2048x128 ![0, 1, 2, 3] bcast_S8x1x2048x128_S8x7x2048x128_0_1_2_3 (broadcastInDim S8x1x2048x128 ![0, 2, 3] bcast_S8x2048x128_S8x1x2048x128_0_2_3 (res_main_v28 V0))) (mulf (Host.dotGeneral dot_S8x7x2048x128_S128x128_S8x7x2048x128_3_0_012_1_n_n none (select (Host.reduce IntOp.andi (andi (cmpi .sge (res_main_call4_v5 V0) (broadcastInDim S8x7x2048x128x1 ![] bcast_S_S8x7x2048x128x1 (constantI S_ 32 0#32))) (cmpi .sle (res_main_call4_v5 V0) (broadcastInDim S8x7x2048x128x1 ![0, 1, 2, 3, 4] bcast_S1x1x1x1x1_S8x7x2048x128x1_0_1_2_3_4 (broadcastInDim S1x1x1x1x1 ![4] bcast_S1_S1x1x1x1x1_4 (constantI S1 32 1#32))))) (constantI S_ 1 1#1) reducesTo_S8x7x2048x128x1_S8x7x2048x128_d4 h_S_) (Host.gather gather_S2_S8x7x2048x128x1_S8x7x2048x128_n_0_n_n_0_4_1 (V0 (Proc.devRef .tc main_arg2)) (res_main_call4_v5 V0)) (broadcastInDim S8x7x2048x128 ![] bcast_S_S8x7x2048x128 (constant S_ .f32 0x7FC00000#32))) (V0 (Proc.devRef .tc main_arg1))) (broadcastInDim S8x7x2048x128 ![0, 1, 2, 3] bcast_S8x7x2048x1_S8x7x2048x128_0_1_2_3 (res_main_v35 V0)))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_cst, main_v4, main_v5, main_cst_0, main_v6, main_v7, main_v8, main_v9, main_cst_1, main_cst_2, main_call0_v0, main_call0_v1, main_call0_v2, main_call0_v3, main_call0_v4, main_v10, main_cst_3, main_v11, main_v12, main_v13, main_cst_4, main_v14, main_v15, main_v16, main_v17, main_v18]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v17 (V0 : Valuation τ sig (Elt F)) : val0_1 V0 (no_index (Proc.devRef .tc main_v17)) = res_main_v17 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v18 (V0 : Valuation τ sig (Elt F)) : val0_1 V0 (no_index (Proc.devRef .tc main_v18)) = res_main_v18 V0 := by
  unfold val0_1
  simp only [ops_part0_0, TRef.binary, TRef.unary, TRef.toBuf, TRef.ofBuf, cast_eq]
  after_results_simp
  simp only [val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v19, main_cst_5, main_v20, main_v21, main_cst_6, main_v22, main_v23, main_v24, main_v25, main_v26, main_v27, main_v28, main_v29, main_v30, main_v31, main_v32, main_v33, main_v34, main_call2_v0, main_call2_cst, main_call2_v1, main_call2_v2, main_v35, main_cst_7, main_v36, main_v37, main_v38, main_v39, main_v40, main_v41]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
set_option maxRecDepth 8192 in
set_option maxHeartbeats 2000000 in
theorem val0_2_main_v28 (V0 : Valuation τ sig (Elt F)) : val0_2 V0 (no_index (Proc.devRef .tc main_v28)) = res_main_v28 V0 := by
  unfold val0_2
  simp only [ops_part0_1, TRef.binary, TRef.nullary, TRef.unary, TRef.toBuf, TRef.ofBuf, cast_eq]
  after_results_simp
  simp only [val0_1_main_v18, val0_1_main_v17] <;> rfl
set_option maxRecDepth 8192 in
set_option maxHeartbeats 2000000 in
theorem val0_2_main_v35 (V0 : Valuation τ sig (Elt F)) : val0_2 V0 (no_index (Proc.devRef .tc main_v35)) = res_main_v35 V0 := by
  unfold val0_2
  simp only [ops_part0_1, TRef.binary, TRef.nullary, TRef.unary, TRef.toBuf, TRef.ofBuf, cast_eq]
  after_results_simp
  simp only [val0_1_main_v18, val0_1_main_v17, val0_1_main_arg0] <;> rfl
set_option maxRecDepth 8192 in
set_option maxHeartbeats 2000000 in
theorem val0_2_main_v41 (V0 : Valuation τ sig (Elt F)) : val0_2 V0 (no_index (Proc.devRef .tc main_v41)) = broadcastInDim S8x7x2048x128x1 ![0, 1, 2, 3] bcast_S8x7x2048x128_S8x7x2048x128x1_0_1_2_3 (Host.dotGeneral dot_S8x7x2048x128_S128x128_S8x7x2048x128_3_1_012_0_n_n none (Host.divf (res_main_v34 V0) (broadcastInDim S8x7x2048x128 ![0, 1, 2, 3] bcast_S8x7x2048x1_S8x7x2048x128_0_1_2_3 (addf (res_main_v35 V0) (broadcastInDim S8x7x2048x1 ![] bcast_S_S8x7x2048x1 (constant S_ .f32 0x322BCC77#32))))) (V0 (Proc.devRef .tc main_arg1))) := by
  unfold val0_2
  simp only [ops_part0_1, TRef.binary, TRef.nullary, TRef.unary, TRef.toBuf, TRef.ofBuf, cast_eq]
  after_results_simp
  simp only [val0_1_main_arg1, val0_1_main_v18, val0_1_main_v17, val0_1_main_arg0] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v42, main_v43, main_v44, main_v45, main_v46, main_call3_v0, main_call3_cst, main_call3_c, main_call3_v1_0, main_v47, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_v28 (V0 : Valuation τ sig (Elt F)) : val0_3 V0 (no_index (Proc.devRef .tc main_v28)) = res_main_v28 V0 :=
  (val0_3_keep V0 main_v28 (by decide)).trans (val0_2_main_v28 V0)
theorem val0_3_main_v35 (V0 : Valuation τ sig (Elt F)) : val0_3 V0 (no_index (Proc.devRef .tc main_v35)) = res_main_v35 V0 :=
  (val0_3_keep V0 main_v35 (by decide)).trans (val0_2_main_v35 V0)
set_option maxRecDepth 8192 in
set_option maxHeartbeats 2000000 in
theorem val0_3_main_call4_v12 (V0 : Valuation τ sig (Elt F)) : val0_3 V0 (no_index (Proc.devRef .tc main_call4_v12)) = Host.reduce IntOp.andi (andi (cmpi .sge (res_main_call4_v5 V0) (broadcastInDim S8x7x2048x128x1 ![] bcast_S_S8x7x2048x128x1 (constantI S_ 32 0#32))) (cmpi .sle (res_main_call4_v5 V0) (broadcastInDim S8x7x2048x128x1 ![0, 1, 2, 3, 4] bcast_S1x1x1x1x1_S8x7x2048x128x1_0_1_2_3_4 (broadcastInDim S1x1x1x1x1 ![4] bcast_S1_S1x1x1x1x1_4 (constantI S1 32 1#32))))) (constantI S_ 1 1#1) reducesTo_S8x7x2048x128x1_S8x7x2048x128_d4 h_S_ := by
  unfold val0_3
  simp only [ops_part0_2, TRef.binary, TRef.nullary, TRef.quaternary, TRef.ternary, TRef.unary, TRef.toBuf, TRef.ofBuf, cast_eq]
  after_results_simp
  simp only [val0_2_main_arg2, val0_2_main_v41] <;> rfl
set_option maxRecDepth 8192 in
set_option maxHeartbeats 2000000 in
theorem val0_3_main_call4_v13 (V0 : Valuation τ sig (Elt F)) : val0_3 V0 (no_index (Proc.devRef .tc main_call4_v13)) = Host.gather gather_S2_S8x7x2048x128x1_S8x7x2048x128_n_0_n_n_0_4_1 (V0 (Proc.devRef .tc main_arg2)) (res_main_call4_v5 V0) := by
  unfold val0_3
  simp only [ops_part0_2, TRef.binary, TRef.nullary, TRef.quaternary, TRef.ternary, TRef.unary, TRef.toBuf, TRef.ofBuf, cast_eq]
  after_results_simp
  simp only [val0_2_main_v41, val0_2_main_arg2] <;> rfl
set_option maxRecDepth 8192 in
set_option maxHeartbeats 2000000 in
theorem val0_3_main_call4_cst (V0 : Valuation τ sig (Elt F)) : val0_3 V0 (no_index (Proc.devRef .tc main_call4_cst)) = constant S_ .f32 0x7FC00000#32 := by
  unfold val0_3
  simp only [ops_part0_2, TRef.binary, TRef.nullary, TRef.quaternary, TRef.ternary, TRef.unary, TRef.toBuf, TRef.ofBuf, cast_eq]
  after_results_simp
  all_goals rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_call4_v14, main_v48, main_v49, main_v50]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
theorem val1_main_v28 (V0 : Valuation τ sig (Elt F)) : val1 V0 (no_index (Proc.devRef .tc main_v28)) = res_main_v28 V0 :=
  (val1_keep V0 main_v28 (by decide)).trans (val0_3_main_v28 V0)
theorem val1_main_v35 (V0 : Valuation τ sig (Elt F)) : val1 V0 (no_index (Proc.devRef .tc main_v35)) = res_main_v35 V0 :=
  (val1_keep V0 main_v35 (by decide)).trans (val0_3_main_v35 V0)
set_option maxRecDepth 8192 in
theorem val1_main_v49 (V0 : Valuation τ sig (Elt F)) : val1 V0 (no_index (Proc.devRef .tc main_v49)) = Host.dotGeneral dot_S8x7x2048x128_S128x128_S8x7x2048x128_3_0_012_1_n_n none (select (Host.reduce IntOp.andi (andi (cmpi .sge (res_main_call4_v5 V0) (broadcastInDim S8x7x2048x128x1 ![] bcast_S_S8x7x2048x128x1 (constantI S_ 32 0#32))) (cmpi .sle (res_main_call4_v5 V0) (broadcastInDim S8x7x2048x128x1 ![0, 1, 2, 3, 4] bcast_S1x1x1x1x1_S8x7x2048x128x1_0_1_2_3_4 (broadcastInDim S1x1x1x1x1 ![4] bcast_S1_S1x1x1x1x1_4 (constantI S1 32 1#32))))) (constantI S_ 1 1#1) reducesTo_S8x7x2048x128x1_S8x7x2048x128_d4 h_S_) (Host.gather gather_S2_S8x7x2048x128x1_S8x7x2048x128_n_0_n_n_0_4_1 (V0 (Proc.devRef .tc main_arg2)) (res_main_call4_v5 V0)) (broadcastInDim S8x7x2048x128 ![] bcast_S_S8x7x2048x128 (constant S_ .f32 0x7FC00000#32))) (V0 (Proc.devRef .tc main_arg1)) := by
  unfold val1
  simp only [ops_part0_3, TRef.ternary, TRef.unary, TRef.toBuf, TRef.ofBuf, cast_eq]
  after_results_simp
  simp only [val0_3_main_arg1, val0_3_main_call4_cst, val0_3_main_call4_v13, val0_3_main_call4_v12] <;> rfl
set_option maxRecDepth 8192 in
theorem val1_main_v50 (V0 : Valuation τ sig (Elt F)) : val1 V0 (no_index (Proc.devRef .tc main_v50)) = broadcastInDim S8x1x2048x128 ![0, 2, 3] bcast_S8x2048x128_S8x1x2048x128_0_2_3 (res_main_v28 V0) := by
  unfold val1
  simp only [ops_part0_3, TRef.ternary, TRef.unary, TRef.toBuf, TRef.ofBuf, cast_eq]
  after_results_simp
  simp only [val0_3_main_v28] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v51, main_v52, main_v53, main_v54, main_v55, main_v56, main_v57]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
set_option maxRecDepth 8192 in
theorem val2_main_v57 (V0 : Valuation τ sig (Elt F)) : val2 V0 (no_index (Proc.devRef .tc main_v57)) = (concatenate S8x8x2048x128 1 [⟨S8x0x2048x128, ((extractStridedSlice S8x0x2048x128 ![0, 0, 0, 0] (res_main_v54 V0) slices_S8x7x2048x128_S8x0x2048x128_0_0_0_0) : (⟨S8x0x2048x128, .f32⟩ : BufTy).Contents (Elt F))⟩, ⟨S8x1x2048x128, ((broadcastInDim S8x1x2048x128 ![0, 2, 3] bcast_S8x2048x128_S8x1x2048x128_0_2_3 (res_main_v28 V0)) : (⟨S8x1x2048x128, .f32⟩ : BufTy).Contents (Elt F))⟩, ⟨S8x7x2048x128, ((res_main_v54 V0) : (⟨S8x7x2048x128, .f32⟩ : BufTy).Contents (Elt F))⟩] concatenates_S8x0x2048x128_S8x1x2048x128_S8x7x2048x128_S8x8x2048x128_d1 : (⟨S8x8x2048x128, .f32⟩ : BufTy).Contents (Elt F)) := by
  unfold val2
  simp only [ops_part1]
  after_results_simp
  try dsimp only [Matrix.cons_val]
  try after_results_simp
  simp only [val1_main_v35, val1_main_v49, val1_main_v50, val1_main_v28] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = (concatenate S8x8x2048x128 1 [⟨S8x0x2048x128, ((extractStridedSlice S8x0x2048x128 ![0, 0, 0, 0] (res_main_v54 (launchContents m c)) slices_S8x7x2048x128_S8x0x2048x128_0_0_0_0) : (⟨S8x0x2048x128, .f32⟩ : BufTy).Contents (Elt F))⟩, ⟨S8x1x2048x128, ((broadcastInDim S8x1x2048x128 ![0, 2, 3] bcast_S8x2048x128_S8x1x2048x128_0_2_3 (res_main_v28 (launchContents m c))) : (⟨S8x1x2048x128, .f32⟩ : BufTy).Contents (Elt F))⟩, ⟨S8x7x2048x128, ((res_main_v54 (launchContents m c)) : (⟨S8x7x2048x128, .f32⟩ : BufTy).Contents (Elt F))⟩] concatenates_S8x0x2048x128_S8x1x2048x128_S8x7x2048x128_S8x8x2048x128_d1 : (⟨S8x8x2048x128, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v57).trans ((congrFun (after_ops (launchContents m c)) (Proc.devRef .tc main_v57)).trans (val2_main_v57 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c)))⟩)
    (run_seq scopedRefs_eq scopedSems_eq defs main (fun _ => ops) main_eq (fun _ => ops_sub) m ρ fun _ => ops_fresh)

end Cert.RefRun

end
-- ==== Proof.RefAnchor.lean ====
/- The reference's anchor rows, as whole-array functions and read at an index: head 0 of every batch laid out as one
   list of 16384 rows, each row's scale, quantized entries and reconstruction, laid out by batch again. -/
module

public import proofs.«01_k».proof.Proof.Gen.ReferenceIdeal
public import proofs.«01_k».proof.Proof.Rows
public import Idealize.ShloMosaic.Lib.KernelVsHost
public import Idealize.ShloMosaic.Lib.Pointwise

@[expose] public section

set_option maxRecDepth 16384

noncomputable section

namespace Cert.RefAnchor

open Cert.ReferenceIdeal Cert.ReferenceIdeal.Gen Cert.Rows Idealize.ShloMosaic

/-- Head 0 of the states, one row per batch and position. -/
def rowsOf (kv : FVec Ideal S8x8x2048x128 .f32) : FVec Ideal S16384x128 .f32 :=
  shapeCast S16384x128 (shapeCast S8x2048x128 (extractStridedSlice S8x1x2048x128 ![0, 0, 0, 0] kv slices_S8x8x2048x128_S8x1x2048x128_0_0_0_0) shapeCasts_S8x1x2048x128_S8x2048x128) shapeCasts_S8x2048x128_S16384x128

/-- The rows' scales. -/
def scaleOf (x : FVec Ideal S16384x128 .f32) : FVec Ideal S16384x1 .f32 :=
  addf (broadcastInDim S16384x1 ![0] bcast_S16384_S16384x1_0 (Host.reduce FloatOps.maximumf (Host.absf x) (constant S_ .f32 0xFF800000#32) reducesTo_S16384x128_S16384_d1 h_S_)) (broadcastInDim S16384x1 ![] bcast_S_S16384x1 (constant S_ .f32 0x322BCC77#32))

/-- The rows quantized, from the rows and their scales. -/
def gridOf (x : FVec Ideal S16384x128 .f32) (s : FVec Ideal S16384x1 .f32) : FVec Ideal S16384x128 .f32 :=
  mulf (Host.divf (Host.roundeven (mulf (minimumf (broadcastInDim S16384x128 ![] bcast_S_S16384x128 (id (constant S_ .f32 0x3F800000#32))) (maximumf (broadcastInDim S16384x128 ![] bcast_S_S16384x128 (id (constant S_ .f32 0xBF800000#32))) (Host.divf x (broadcastInDim S16384x128 ![0, 1] bcast_S16384x1_S16384x128_0_1 s)))) (broadcastInDim S16384x128 ![] bcast_S_S16384x128 (constant S_ .f32 0x40400000#32)))) (broadcastInDim S16384x128 ![] bcast_S_S16384x128 (constant S_ .f32 0x40400000#32))) (broadcastInDim S16384x128 ![0, 1] bcast_S16384x1_S16384x128_0_1 s)

/-- The rows reconstructed, by batch and position, from the quantized rows `q` and what they leave over `r`. -/
def anchorOf (q r : FVec Ideal S16384x128 .f32) : FVec Ideal S8x2048x128 .f32 :=
  shapeCast S8x2048x128 (addf q (mulf (broadcastInDim S16384x128 ![0, 1] bcast_S16384x1_S16384x128_0_1 (Host.divf (broadcastInDim S16384x1 ![0] bcast_S16384_S16384x1_0 (Host.reduceAdd (Host.absf r) (constant S_ .f32 0x00000000#32) reducesTo_S16384x128_S16384_d1 h_S_)) (broadcastInDim S16384x1 ![] bcast_S_S16384x1 (constant S_ .f32 0x43000000#32)))) (Host.sign r))) shapeCasts_S16384x128_S8x2048x128

/-- The reconstructed anchor rows of the states. -/
def anchors (kv : FVec Ideal S8x8x2048x128 .f32) : FVec Ideal S8x2048x128 .f32 :=
  anchorOf (gridOf (rowsOf kv) (scaleOf (rowsOf kv)))
    (subf (rowsOf kv) (gridOf (rowsOf kv) (scaleOf (rowsOf kv))))

/-- Rows of a rank-3 array laid out as one list: row `b * 2048 + s` of the list is row `s` of batch `b`. -/
theorem merged (x : FVec Ideal S8x2048x128 .f32) (b : Fin 8) (s : Fin 2048) (d : Fin 128) (n : Fin 16384)
    (hn : b.val * 2048 + s.val = n.val) :
    shapeCast S16384x128 x shapeCasts_S8x2048x128_S16384x128 (ix2 n d) = x (ix3 b s d) := by
  refine shapeCast_apply x _ _ _ ?_
  rw [rowMajor_val2 _ 128 rfl, rowMajor_val3 _ 262144 128 rfl rfl]
  show b.val * 262144 + s.val * 128 + d.val = n.val * 128 + d.val
  omega

/-- And the list laid out by batch again. -/
theorem split (x : FVec Ideal S16384x128 .f32) (b : Fin 8) (s : Fin 2048) (d : Fin 128) (n : Fin 16384)
    (hn : b.val * 2048 + s.val = n.val) :
    shapeCast S8x2048x128 x shapeCasts_S16384x128_S8x2048x128 (ix3 b s d) = x (ix2 n d) := by
  refine shapeCast_apply x _ _ _ ?_
  rw [rowMajor_val2 _ 128 rfl, rowMajor_val3 _ 262144 128 rfl rfl]
  show n.val * 128 + d.val = b.val * 262144 + s.val * 128 + d.val
  omega

/-- The list's row of batch `b` and position `s` is head 0 there. -/
theorem rowsOf_apply (kv : FVec Ideal S8x8x2048x128 .f32) (b : Fin 8) (s : Fin 2048) (d : Fin 128) (n : Fin 16384)
    (hn : b.val * 2048 + s.val = n.val) : rowsOf kv (ix2 n d) = kv (ix4 b 0 s d) := by
  unfold rowsOf
  rw [merged _ b s d n hn]
  pointwise

/-- A list as a column. -/
theorem column {m : Nat} {α : Type} (h : (⟨1, ![m]⟩ : Shape).BroadcastsInDim ⟨2, ![m, 1]⟩ ![0])
    (x : (⟨1, ![m]⟩ : Shape).Idx → α) (n : Fin m) : broadcastInDim ⟨2, ![m, 1]⟩ ![0] h x (ix2 n 0) = x (ix1 n) := by
  refine broadcastInDim_apply _ _ _ _ _ fun a => ?_
  match a with
  | ⟨0, _⟩ => show n.val = if m = 1 then 0 else n.val; split <;> omega

/-- A column along every row. -/
theorem spread {m k : Nat} {α : Type} (h : (⟨2, ![m, 1]⟩ : Shape).BroadcastsInDim ⟨2, ![m, k]⟩ ![0, 1])
    (x : (⟨2, ![m, 1]⟩ : Shape).Idx → α) (n : Fin m) (d : Fin k) :
    broadcastInDim ⟨2, ![m, k]⟩ ![0, 1] h x (ix2 n d) = x (ix2 n 0) := by
  refine broadcastInDim_apply _ _ _ _ _ fun a => ?_
  match a with
  | ⟨0, _⟩ => show n.val = if m = 1 then 0 else n.val; split <;> omega
  | ⟨1, _⟩ => rfl

/-- The largest magnitude of a row. -/
theorem rowMax {m k : Nat} (x : FVec Ideal ⟨2, ![m, k]⟩ .f32) (h : (⟨2, ![m, k]⟩ : Shape).ReducesTo [1] ⟨1, ![m]⟩)
    (n : Fin m) :
    Host.reduce FloatOps.maximumf (Host.absf x) (constant S_ .f32 0xFF800000#32) h h_S_ (ix1 n)
      = Finset.univ.fold max (Ideal.ofBits .f32 0xFF800000#32) (fun d => mag (x (ix2 n d))) := by
  pointwise

/-- A row's scale. -/
theorem scaleOf_apply (x : FVec Ideal S16384x128 .f32) (n : Fin 16384) :
    scaleOf x (ix2 n 0) = scale (fun k => x (ix2 n k)) :=
  congrArg (· + tiny) ((column _ _ n).trans (rowMax x _ n))

/-- A quantized entry. -/
theorem gridOf_apply (x : FVec Ideal S16384x128 .f32) (n : Fin 16384) (d : Fin 128) :
    gridOf x (scaleOf x) (ix2 n d) = grid (fun k => x (ix2 n k)) d := by
  rw [grid, level, ← scaleOf_apply]
  generalize scaleOf x = s
  unfold gridOf
  simp only [id]
  rw [← spread bcast_S16384x1_S16384x128_0_1 s n d]
  generalize broadcastInDim S16384x128 ![0, 1] bcast_S16384x1_S16384x128_0_1 s = t
  pointwise

/-- A reconstructed entry, from the quantized entries and the rests. -/
theorem anchorOf_apply (q r : FVec Ideal S16384x128 .f32) (b : Fin 8) (s : Fin 2048) (d : Fin 128) (n : Fin 16384)
    (hn : b.val * 2048 + s.val = n.val) :
    anchorOf q r (ix3 b s d) = q (ix2 n d)
      + Ideal.div (∑ k, mag (r (ix2 n k))) (Ideal.ofBits .f32 0x43000000#32) * Ideal.sign (r (ix2 n d)) := by
  unfold anchorOf
  rw [split _ b s d n hn]
  pointwise

/-- The anchor rows, at an index: `anchor` of head 0's row. -/
theorem anchors_apply (kv : FVec Ideal S8x8x2048x128 .f32) (b : Fin 8) (s : Fin 2048) (d : Fin 128) :
    anchors kv (ix3 b s d) = anchor (fun k => kv (ix4 b 0 s k)) d := by
  obtain ⟨n, hn⟩ : ∃ n : Fin 16384, b.val * 2048 + s.val = n.val := ⟨⟨b.val * 2048 + s.val, by omega⟩, rfl⟩
  have hg := fun k => gridOf_apply (rowsOf kv) n k
  simp only [rowsOf_apply kv b s _ n hn] at hg
  unfold anchors
  rw [anchorOf_apply _ _ b s d n hn]
  simp only [subf_apply, hg, rowsOf_apply kv b s _ n hn]
  rfl

end Cert.RefAnchor

end
-- ==== Proof.RefHeads.lean ====
/- The reference's other heads up to the distances to the codewords, as whole-array functions and read at an index. -/
module

public import proofs.«01_k».proof.Proof.Gen.ReferenceIdeal
public import proofs.«01_k».proof.Proof.Rows
public import Idealize.ShloMosaic.Lib.Pointwise

@[expose] public section

set_option maxRecDepth 16384

noncomputable section

namespace Cert.RefHeads

open Cert.ReferenceIdeal Cert.ReferenceIdeal.Gen Cert.Rows Idealize.ShloMosaic

/-- Heads 1 to 7 less their anchor rows `a`. -/
def deltaOf (kv : FVec Ideal S8x8x2048x128 .f32) (a : FVec Ideal S8x2048x128 .f32) : FVec Ideal S8x7x2048x128 .f32 :=
  subf (concatenate S8x7x2048x128 1 [⟨S8x0x2048x128, (extractStridedSlice S8x0x2048x128 ![0, 0, 0, 0] kv slices_S8x8x2048x128_S8x0x2048x128_0_0_0_0)⟩, ⟨S8x7x2048x128, (extractStridedSlice S8x7x2048x128 ![0, 1, 0, 0] kv slices_S8x8x2048x128_S8x7x2048x128_0_1_0_0)⟩] concatenates_S8x0x2048x128_S8x7x2048x128_S8x7x2048x128_d1) (broadcastInDim S8x7x2048x128 ![0, 1, 2, 3] bcast_S8x1x2048x128_S8x7x2048x128_0_1_2_3 (broadcastInDim S8x1x2048x128 ![0, 2, 3] bcast_S8x2048x128_S8x1x2048x128_0_2_3 a))

/-- The norms of the differences. -/
def normOf (δ : FVec Ideal S8x7x2048x128 .f32) : FVec Ideal S8x7x2048x1 .f32 :=
  Host.sqrt (broadcastInDim S8x7x2048x1 ![0, 1, 2] bcast_S8x7x2048_S8x7x2048x1_0_1_2 (Host.reduceAdd (mulf δ δ) (constant S_ .f32 0x00000000#32) reducesTo_S8x7x2048x128_S8x7x2048_d3 h_S_))

/-- The distance of each rotated entry to each codeword, from the differences `δ` and their norms `n`. -/
def distanceOf (δ : FVec Ideal S8x7x2048x128 .f32) (n : FVec Ideal S8x7x2048x1 .f32) (R : FVec Ideal S128x128 .f32) (cb : FVec Ideal S2 .f32) : FVec Ideal S8x7x2048x128x2 .f32 :=
  Host.absf (subf (broadcastInDim S8x7x2048x128x2 ![0, 1, 2, 3, 4] bcast_S8x7x2048x128x1_S8x7x2048x128x2_0_1_2_3_4 (broadcastInDim S8x7x2048x128x1 ![0, 1, 2, 3] bcast_S8x7x2048x128_S8x7x2048x128x1_0_1_2_3 (Host.dotGeneral dot_S8x7x2048x128_S128x128_S8x7x2048x128_3_1_012_0_n_n none (Host.divf δ (broadcastInDim S8x7x2048x128 ![0, 1, 2, 3] bcast_S8x7x2048x1_S8x7x2048x128_0_1_2_3 (addf n (broadcastInDim S8x7x2048x1 ![] bcast_S_S8x7x2048x1 (constant S_ .f32 0x322BCC77#32))))) R))) (broadcastInDim S8x7x2048x128x2 ![0, 1, 2, 3, 4] bcast_S1x1x1x1x2_S8x7x2048x128x2_0_1_2_3_4 (broadcastInDim S1x1x1x1x2 ![4] bcast_S2_S1x1x1x1x2_4 cb)))

/-- Heads 1 to 7 restored: the anchor rows `a` plus the codewords `y` rotated back, times the norms `n`. -/
def restoreOf (a : FVec Ideal S8x2048x128 .f32) (y : FVec Ideal S8x7x2048x128 .f32) (R : FVec Ideal S128x128 .f32) (n : FVec Ideal S8x7x2048x1 .f32) : FVec Ideal S8x7x2048x128 .f32 :=
  addf (broadcastInDim S8x7x2048x128 ![0, 1, 2, 3] bcast_S8x1x2048x128_S8x7x2048x128_0_1_2_3 (broadcastInDim S8x1x2048x128 ![0, 2, 3] bcast_S8x2048x128_S8x1x2048x128_0_2_3 a)) (mulf (Host.dotGeneral dot_S8x7x2048x128_S128x128_S8x7x2048x128_3_0_012_1_n_n none y R) (broadcastInDim S8x7x2048x128 ![0, 1, 2, 3] bcast_S8x7x2048x1_S8x7x2048x128_0_1_2_3 n))

/-- The whole result: head 0 the anchor rows `a`, heads 1 to 7 the rows `o`. -/
def joinOf (a : FVec Ideal S8x2048x128 .f32) (o : FVec Ideal S8x7x2048x128 .f32) : FVec Ideal S8x8x2048x128 .f32 :=
  concatenate S8x8x2048x128 1 [⟨S8x0x2048x128, extractStridedSlice S8x0x2048x128 ![0, 0, 0, 0] o slices_S8x7x2048x128_S8x0x2048x128_0_0_0_0⟩, ⟨S8x1x2048x128, broadcastInDim S8x1x2048x128 ![0, 2, 3] bcast_S8x2048x128_S8x1x2048x128_0_2_3 a⟩, ⟨S8x7x2048x128, o⟩] concatenates_S8x0x2048x128_S8x1x2048x128_S8x7x2048x128_S8x8x2048x128_d1

/-- A difference: the head's entry less the anchor's. -/
theorem deltaOf_apply (kv : FVec Ideal S8x8x2048x128 .f32) (a : FVec Ideal S8x2048x128 .f32) (b : Fin 8) (h : Fin 7)
    (s : Fin 2048) (d : Fin 128) (h1 : 1 + h.val < 8) :
    deltaOf kv a (ix4 b h s d) = kv (ix4 b ⟨1 + h.val, h1⟩ s d) - a (ix3 b s d) := by
  pointwise [deltaOf]
  rw [dif_neg (Nat.not_lt_zero _)]

/-- A norm. -/
theorem normOf_apply (δ : FVec Ideal S8x7x2048x128 .f32) (b : Fin 8) (h : Fin 7) (s : Fin 2048) :
    normOf δ (ix4 b h s 0) = norm (fun k => δ (ix4 b h s k)) := by
  pointwise [normOf]
  rfl

/-- A distance: that of the rotated entry to the codeword. -/
theorem distanceOf_apply (δ : FVec Ideal S8x7x2048x128 .f32) (R : FVec Ideal S128x128 .f32) (cb : FVec Ideal S2 .f32)
    (b : Fin 8) (h : Fin 7) (s : Fin 2048) (e : Fin 128) (k : Fin 2) :
    distanceOf δ (normOf δ) R cb (ix5 b h s e k)
      = mag (turned (fun k => δ (ix4 b h s k)) (fun e k => R (ix2 e k)) e - cb (ix1 k)) := by
  rw [turned, ← normOf_apply]
  generalize normOf δ = n
  pointwise [distanceOf]

/-- A restored entry, from the codewords. -/
theorem restoreOf_apply (a : FVec Ideal S8x2048x128 .f32) (y : FVec Ideal S8x7x2048x128 .f32) (R : FVec Ideal S128x128 .f32)
    (n : FVec Ideal S8x7x2048x1 .f32) (b : Fin 8) (h : Fin 7) (s : Fin 2048) (d : Fin 128) :
    restoreOf a y R n (ix4 b h s d)
      = a (ix3 b s d) + (∑ e, y (ix4 b h s e) * R (ix2 e d)) * n (ix4 b h s 0) := by
  pointwise [restoreOf]

/-- Head 0 of the joined result. -/
theorem joinOf_first (a : FVec Ideal S8x2048x128 .f32) (o : FVec Ideal S8x7x2048x128 .f32) (b : Fin 8) (s : Fin 2048)
    (d : Fin 128) : joinOf a o (ix4 b 0 s d) = a (ix3 b s d) := by
  pointwise [joinOf]

/-- Heads 1 to 7 of the joined result. -/
theorem joinOf_others (a : FVec Ideal S8x2048x128 .f32) (o : FVec Ideal S8x7x2048x128 .f32) (b : Fin 8) (h : Fin 7)
    (s : Fin 2048) (d : Fin 128) (h1 : 1 + h.val < 8) : joinOf a o (ix4 b ⟨1 + h.val, h1⟩ s d) = o (ix4 b h s d) := by
  pointwise [joinOf]
  rw [dif_neg (Nat.not_lt_zero _)]

end Cert.RefHeads

end
-- ==== Proof.RefNearest.lean ====
/- The position of the nearest codeword: what the reference's smallest-of-two reduction gives at an index. -/
module

public import proofs.«01_k».proof.Proof.Gen.ReferenceIdeal
public import proofs.«01_k».proof.Proof.Rows
public import Idealize.ShloMosaic.PureOps.Ideal.Laws
public import Idealize.ShloMosaic.PureOps.Reduce
public import Idealize.ShloMosaic.Lib.Pointwise

@[expose] public section

set_option maxRecDepth 16384

noncomputable section

namespace Cert.RefNearest

open Cert.ReferenceIdeal Cert.ReferenceIdeal.Gen Cert.Rows Idealize.ShloMosaic

/-- The position along the last axis of the smallest entry of `D`. -/
def nearestOf (D : FVec Ideal S8x7x2048x128x2 .f32) : IVec S8x7x2048x128 32 :=
  fun j => (Host.argReduce reducer_argmin_f32_i32 D (iotaInDim S8x7x2048x128x2 32 4) (constant S_ .f32 0x7F800000#32) (constantI S_ 32 0#32) reducesTo_S8x7x2048x128x2_S8x7x2048x128_d4 h_S_ j).2

/-- When just two source indices reduce into `j`, the pairs a reduction folds there are theirs, in row-major order. -/
theorem pair_fiber {s t : Shape} {axes : List (Fin s.rank)} {α β : Type} (x : s.Idx → α) (y : s.Idx → β)
    (h : s.ReducesTo axes t) (j : t.Idx) (i₀ i₁ : s.Idx) (hlt : s.rowMajor i₀ < s.rowMajor i₁)
    (hf : ∀ i, h.drop i = j ↔ i = i₀ ∨ i = i₁) : Host.argReduceFiber x y h j = [(x i₀, y i₀), (x i₁, y i₁)] := by
  have hl : (List.finRange s.numel).filter (fun n => h.drop (s.rowMajor.symm n) = j) = [s.rowMajor i₀, s.rowMajor i₁] := by
    refine List.Perm.eq_of_pairwise' (r := (· ≤ ·)) ?_ ?_ ?_
    · exact ((List.pairwise_le_finRange _)).sublist List.filter_sublist
    · simpa using hlt.le
    · refine (List.perm_ext_iff_of_nodup ((List.nodup_finRange _).filter _) (by simpa using hlt.ne)).2 fun n => ?_
      simp [hf, Equiv.symm_apply_eq]
  unfold Host.argReduceFiber
  rw [hl]
  simp

/-- The reduction's step, over the extended reals, on a word pair. -/
theorem step (a b : EReal) (m n : BitVec 32) :
    reducer_argmin_f32_i32 (F := Ideal) (a, m) (b, n)
      = (if a < b then a else b, if a < b ∨ a = b ∧ m.toInt < n.toInt then m else n) := by
  by_cases h1 : a < b <;> by_cases h2 : a = b <;> by_cases h3 : m.toInt < n.toInt <;>
    simp [reducer_argmin_f32_i32, Ideal.cmpf_def, Ideal.cmp, IntOp.cmpi, IntOp.ori, IntOp.andi, Scalar.select, BitVec.slt, h1, h2, h3]

/-- Over a last axis of two, the position is 1 when the second entry is smaller, else 0. -/
theorem smaller_of_two {n0 n1 n2 n3 : Nat} (D : FVec Ideal ⟨5, ![n0, n1, n2, n3, 2]⟩ .f32)
    (red : (⟨5, ![n0, n1, n2, n3, 2]⟩ : Shape).ReducesTo [4] ⟨4, ![n0, n1, n2, n3]⟩) (b : Fin n0) (h : Fin n1) (s : Fin n2)
    (e : Fin n3) :
    (Host.argReduce reducer_argmin_f32_i32 D (iotaInDim ⟨5, ![n0, n1, n2, n3, 2]⟩ 32 4) (constant S_ .f32 0x7F800000#32)
      (constantI S_ 32 0#32) red h_S_ (ix4 b h s e)).2
      = if D (ix5 b h s e 1) < D (ix5 b h s e 0) then 1#32 else 0#32 := by
  rw [Ideal.argReduce_eq_reduce2, Host.reduce2_eq_foldl_fiber,
    pair_fiber _ _ _ _ (ix5 b h s e 0) (ix5 b h s e 1)]
  · have ht : Ideal.ofBits .f32 0x7F800000#32 = ⊤ := by simp [Ideal.ofBits, Ideal.ieee]
    generalize D (ix5 b h s e 0) = u
    generalize D (ix5 b h s e 1) = v
    show (reducer_argmin_f32_i32 (F := Ideal) (reducer_argmin_f32_i32 (F := Ideal)
      (Ideal.ofBits .f32 0x7F800000#32, 0#32) (u, 0#32)) (v, 1#32)).2 = _
    rw [ht, step, step]
    have hu : ¬ (⊤ : EReal) < u := not_top_lt
    simp only [hu, if_false, lt_irrefl, and_false, or_self]
    by_cases hvu : v < u
    · simp [hvu, hvu.not_gt, hvu.ne']
    · rcases (not_lt.1 hvu).lt_or_eq with h | h <;> simp [h, h.le]
  · refine Fin.lt_def.2 ?_
    rw [rowMajor_val5 _ _ _ _ _ rfl rfl rfl rfl, rowMajor_val5 _ _ _ _ _ rfl rfl rfl rfl]
    exact Nat.lt_succ_self _
  · intro i
    rw [Shape.ReducesTo.fiber_r5_a4]
    constructor
    · rintro ⟨k, rfl⟩
      match k with
      | 0 => exact .inl rfl
      | 1 => exact .inr rfl
    · rintro (rfl | rfl)
      · exact ⟨0, rfl⟩
      · exact ⟨1, rfl⟩

/-- The position is 1 when the second distance is smaller, else 0. -/
theorem nearestOf_apply (D : FVec Ideal S8x7x2048x128x2 .f32) (b : Fin 8) (h : Fin 7) (s : Fin 2048) (e : Fin 128) :
    nearestOf D (ix4 b h s e) = if D (ix5 b h s e 1) < D (ix5 b h s e 0) then 1#32 else 0#32 := by
  have hE : nearestOf D = fun j => (Host.argReduce reducer_argmin_f32_i32 D (iotaInDim S8x7x2048x128x2 32 4) (constant S_ .f32 0x7F800000#32) (constantI S_ 32 0#32) reducesTo_S8x7x2048x128x2_S8x7x2048x128_d4 h_S_ j).2 := rfl
  exact (congrFun hE _).trans (smaller_of_two D _ b h s e)

end Cert.RefNearest

end
-- ==== Proof.RefTake.lean ====
/- The codeword at a position: what the reference's lookup in the codebook gives at an index. -/
module

public import proofs.«01_k».proof.Proof.Gen.ReferenceIdeal
public import Idealize.ShloMosaic.Lib.ReduceAll
public import Idealize.ShloMosaic.Lib.Pointwise

@[expose] public section

set_option maxRecDepth 16384

noncomputable section

namespace Cert.RefTake

open Cert.ReferenceIdeal Cert.ReferenceIdeal.Gen Idealize.ShloMosaic

/-- A position counted from the end when it is negative, as a column. -/
def wrappedOf (i : IVec S8x7x2048x128 32) : IVec S8x7x2048x128x1 32 :=
  broadcastInDim S8x7x2048x128x1 ![0, 1, 2, 3] bcast_S8x7x2048x128_S8x7x2048x128x1_0_1_2_3 (select (cmpi .slt i (broadcastInDim S8x7x2048x128 ![] bcast_S_S8x7x2048x128 (constantI S_ 32 0#32))) (addi i (broadcastInDim S8x7x2048x128 ![] bcast_S_S8x7x2048x128 (constantI S_ 32 2#32))) i)

/-- Whether each position is in range. -/
def insideOf (w : IVec S8x7x2048x128x1 32) : IVec S8x7x2048x128x1 1 :=
  andi (cmpi .sge w (broadcastInDim S8x7x2048x128x1 ![] bcast_S_S8x7x2048x128x1 (constantI S_ 32 0#32))) (cmpi .sle w (broadcastInDim S8x7x2048x128x1 ![0, 1, 2, 3, 4] bcast_S1x1x1x1x1_S8x7x2048x128x1_0_1_2_3_4 (broadcastInDim S1x1x1x1x1 ![4] bcast_S1_S1x1x1x1x1_4 (constantI S1 32 1#32))))

/-- The codewords at the positions, NaN where one is out of range. -/
def takenOf (cb : FVec Ideal S2 .f32) (w : IVec S8x7x2048x128x1 32) : FVec Ideal S8x7x2048x128 .f32 :=
  select (Host.reduce IntOp.andi (insideOf w) (constantI S_ 1 1#1) reducesTo_S8x7x2048x128x1_S8x7x2048x128_d4 h_S_) (Host.gather gather_S2_S8x7x2048x128x1_S8x7x2048x128_n_0_n_n_0_4_1 cb w) (broadcastInDim S8x7x2048x128 ![] bcast_S_S8x7x2048x128 (constant S_ .f32 0x7FC00000#32))

/-- A position that is 0 or 1 is kept. -/
theorem wrappedOf_apply (i : IVec S8x7x2048x128 32) (hi : ∀ j, i j = 0#32 ∨ i j = 1#32) (b : Fin 8) (h : Fin 7)
    (s : Fin 2048) (e : Fin 128) (k : Fin 1) : wrappedOf i (ix5 b h s e k) = i (ix4 b h s e) := by
  have hi := hi (ix4 b h s e)
  pointwise [wrappedOf]
  rcases hi with hi | hi <;> rw [hi] <;> rfl

/-- A position that is 0 or 1 is in range. -/
theorem insideOf_apply (w : IVec S8x7x2048x128x1 32) (j : S8x7x2048x128x1.Idx) (hw : w j = 0#32 ∨ w j = 1#32) :
    insideOf w j = 1#1 := by
  show IntOp.andi (IntOp.cmpi .sge (w j) 0#32) (IntOp.cmpi .sle (w j) 1#32) = 1#1
  rcases hw with hw | hw <;> rw [hw] <;> rfl

/-- The lookup reads the codebook at the position, clamped into it. -/
theorem gather_apply (cb : FVec Ideal S2 .f32) (w : IVec S8x7x2048x128x1 32) (b : Fin 8) (h : Fin 7) (s : Fin 2048)
    (e : Fin 128) :
    Host.gather gather_S2_S8x7x2048x128x1_S8x7x2048x128_n_0_n_n_0_4_1 cb w (ix4 b h s e)
      = cb (ix1 ⟨min (w (ix5 b h s e 0)).toInt.toNat 1, by omega⟩) := by
  unfold Host.gather
  refine congrArg cb (funext fun a => ?_)
  obtain rfl : a = 0 := Subsingleton.elim _ _
  apply Fin.ext
  have hb : (0 : Fin 1) ∉ gather_S2_S8x7x2048x128x1_S8x7x2048x128_n_0_n_n_0_4_1.operandBatchingDims := List.not_mem_nil
  have hk : (0 : Fin 1) ∉ gather_S2_S8x7x2048x128x1_S8x7x2048x128_n_0_n_n_0_4_1.sKept := by
    rw [GatherDims.mem_sKept]; simp [gather_S2_S8x7x2048x128x1_S8x7x2048x128_n_0_n_n_0_4_1]
  have hm : (0 : Fin 1) ∈ gather_S2_S8x7x2048x128x1_S8x7x2048x128_n_0_n_n_0_4_1.startIndexMap := List.mem_singleton.2 rfl
  simp only [GatherDims.operandIdx, GatherDims.batchCoord_eq_zero _ _ _ hb, GatherDims.offCoord_eq_zero _ _ _ hk,
    Nat.add_zero, GatherDims.start, dif_pos hm]
  show min (w _).toInt.toNat 1 = min (w _).toInt.toNat 1
  refine congrArg (fun i => min (w i).toInt.toNat 1) (funext fun c => ?_)
  match c with
  | ⟨0, _⟩ => rfl
  | ⟨1, _⟩ => rfl
  | ⟨2, _⟩ => rfl
  | ⟨3, _⟩ => rfl
  | ⟨4, _⟩ => rfl

/-- The codeword taken at positions that are all 0 or 1. -/
theorem takenOf_apply (cb : FVec Ideal S2 .f32) (i : IVec S8x7x2048x128 32) (hi : ∀ j, i j = 0#32 ∨ i j = 1#32) (b : Fin 8)
    (h : Fin 7) (s : Fin 2048) (e : Fin 128) :
    takenOf cb (wrappedOf i) (ix4 b h s e) = if i (ix4 b h s e) = 1#32 then cb (ix1 1) else cb (ix1 0) := by
  have hr : Host.reduce IntOp.andi (insideOf (wrappedOf i)) (constantI S_ 1 1#1)
      reducesTo_S8x7x2048x128x1_S8x7x2048x128_d4 h_S_ (ix4 b h s e) = 1#1 := by
    refine Host.reduce_andi_one _ _ _ _ _ rfl fun j => insideOf_apply _ _ ?_
    idx_vars j
    rw [wrappedOf_apply i hi]
    exact hi _
  have hs : ∀ (c : IVec S8x7x2048x128 1) (x y : FVec Ideal S8x7x2048x128 .f32) (j : S8x7x2048x128.Idx), c j = 1#1 →
      select c x y j = x j := fun c x y j hc => by
    show Scalar.select (c j) (x j) (y j) = x j
    rw [hc]
    rfl
  unfold takenOf
  rw [hs _ _ _ _ hr, gather_apply]
  simp only [wrappedOf_apply i hi]
  rcases hi (ix4 b h s e) with hk | hk
  · simp only [hk]; rfl
  · simp only [hk]; rfl

end Cert.RefTake

end
-- ==== Proof.RefArray.lean ====
/- The reference's whole result, as one function of its three arguments, and the result read at an index. -/
module

public import proofs.«01_k».proof.Proof.RefRun
public import proofs.«01_k».proof.Proof.RefAnchor
public import proofs.«01_k».proof.Proof.RefHeads
public import proofs.«01_k».proof.Proof.RefNearest
public import proofs.«01_k».proof.Proof.RefTake

@[expose] public section

set_option maxRecDepth 16384

noncomputable section

namespace Cert.RefArray

open Cert.ReferenceIdeal Cert.ReferenceIdeal.Gen Cert.RefRun Cert.Rows Cert.RefAnchor Cert.RefHeads Cert.RefNearest
  Cert.RefTake Idealize.ShloMosaic Idealize.ShloMosaic.TcCoe Idealize.SL.Sem Idealize.ShloMosaic.StableHlo

/-- The differences of heads 1 to 7 from the anchor rows. -/
def deltas (kv : FVec Ideal S8x8x2048x128 .f32) : FVec Ideal S8x7x2048x128 .f32 := deltaOf kv (anchors kv)

/-- The distances of the rotated differences to the codewords. -/
def distances (kv : FVec Ideal S8x8x2048x128 .f32) (R : FVec Ideal S128x128 .f32) (cb : FVec Ideal S2 .f32) :
    FVec Ideal S8x7x2048x128x2 .f32 := distanceOf (deltas kv) (normOf (deltas kv)) R cb

/-- The nearest codewords. -/
def words (kv : FVec Ideal S8x8x2048x128 .f32) (R : FVec Ideal S128x128 .f32) (cb : FVec Ideal S2 .f32) :
    FVec Ideal S8x7x2048x128 .f32 := takenOf cb (wrappedOf (nearestOf (distances kv R cb)))

/-- Heads 1 to 7 of the result. -/
def others (kv : FVec Ideal S8x8x2048x128 .f32) (R : FVec Ideal S128x128 .f32) (cb : FVec Ideal S2 .f32) :
    FVec Ideal S8x7x2048x128 .f32 := restoreOf (anchors kv) (words kv R cb) R (normOf (deltas kv))

/-- A nearest codeword, at an index. -/
theorem words_apply (kv : FVec Ideal S8x8x2048x128 .f32) (R : FVec Ideal S128x128 .f32) (cb : FVec Ideal S2 .f32)
    (b : Fin 8) (h : Fin 7) (s : Fin 2048) (e : Fin 128) :
    words kv R cb (ix4 b h s e) = byDistance (cb (ix1 0)) (cb (ix1 1))
      (turned (fun k => deltas kv (ix4 b h s k)) (fun e k => R (ix2 e k)) e) := by
  have hi : ∀ j, nearestOf (distances kv R cb) j = 0#32 ∨ nearestOf (distances kv R cb) j = 1#32 := fun j => by
    idx_vars j
    rw [nearestOf_apply]
    split
    · exact .inr rfl
    · exact .inl rfl
  unfold words
  rw [takenOf_apply _ _ hi, nearestOf_apply]
  unfold distances byDistance
  rw [distanceOf_apply, distanceOf_apply]
  split <;> simp_all

/-- A difference, at an index. -/
theorem deltas_apply (kv : FVec Ideal S8x8x2048x128 .f32) (b : Fin 8) (h : Fin 7) (s : Fin 2048) (d : Fin 128)
    (h1 : 1 + h.val < 8) :
    deltas kv (ix4 b h s d) = kv (ix4 b ⟨1 + h.val, h1⟩ s d) - anchor (fun k => kv (ix4 b 0 s k)) d := by
  unfold deltas
  rw [deltaOf_apply _ _ _ _ _ _ h1, anchors_apply]

/-- An entry of heads 1 to 7: the restored one, its code chosen by distance. -/
theorem others_apply (kv : FVec Ideal S8x8x2048x128 .f32) (R : FVec Ideal S128x128 .f32) (cb : FVec Ideal S2 .f32)
    (b : Fin 8) (h : Fin 7) (s : Fin 2048) (d : Fin 128) (h1 : 1 + h.val < 8) :
    others kv R cb (ix4 b h s d) = restored (byDistance (cb (ix1 0)) (cb (ix1 1))) (anchor (fun k => kv (ix4 b 0 s k)))
      (fun k => kv (ix4 b ⟨1 + h.val, h1⟩ s k) - anchor (fun k => kv (ix4 b 0 s k)) k) (fun e k => R (ix2 e k)) d := by
  unfold others
  rw [restoreOf_apply, anchors_apply, normOf_apply]
  simp only [words_apply, deltas_apply kv b h s _ h1]
  rfl

/-- The whole result, at an index. -/
theorem joined_apply (kv : FVec Ideal S8x8x2048x128 .f32) (R : FVec Ideal S128x128 .f32) (cb : FVec Ideal S2 .f32)
    (b h : Fin 8) (s : Fin 2048) (d : Fin 128) :
    joinOf (anchors kv) (others kv R cb) (ix4 b h s d)
      = result (byDistance (cb (ix1 0)) (cb (ix1 1))) (fun h s d => kv (ix4 b h s d)) (fun e k => R (ix2 e k)) h s d := by
  unfold result
  by_cases h0 : h = 0
  · subst h0
    rw [if_pos rfl, joinOf_first, anchors_apply]
  · obtain ⟨g, h1, rfl⟩ : ∃ (g : Fin 7) (h1 : 1 + g.val < 8), h = ⟨1 + g.val, h1⟩ :=
      ⟨⟨h.val - 1, by omega⟩, by show 1 + (h.val - 1) < 8; omega, Fin.ext (by show h.val = 1 + (h.val - 1); omega)⟩
    rw [if_neg h0, joinOf_others, others_apply _ _ _ _ _ _ _ h1]

/-- The rows the run lays out. -/
theorem v2_eq (V : Valuation τ sig (Elt Ideal)) : res_main_v2 V = rowsOf (V (Proc.devRef .tc main_arg0)) := rfl

/-- The run's scales. -/
theorem v7_eq (V : Valuation τ sig (Elt Ideal)) :
    res_main_v7 V = scaleOf (rowsOf (V (Proc.devRef .tc main_arg0))) := by
  unfold res_main_v7
  rw [v2_eq]
  rfl

/-- The run's quantized rows. -/
theorem v17_eq (V : Valuation τ sig (Elt Ideal)) :
    res_main_v17 V = gridOf (rowsOf (V (Proc.devRef .tc main_arg0))) (scaleOf (rowsOf (V (Proc.devRef .tc main_arg0)))) := by
  unfold res_main_v17
  rw [v2_eq, v7_eq]
  rfl

/-- The run's anchor rows. -/
theorem v28_eq (V : Valuation τ sig (Elt Ideal)) : res_main_v28 V = anchors (V (Proc.devRef .tc main_arg0)) := by
  unfold res_main_v28 res_main_v18
  rw [v2_eq, v17_eq]
  rfl

/-- The run's differences. -/
theorem v34_eq (V : Valuation τ sig (Elt Ideal)) : res_main_v34 V = deltas (V (Proc.devRef .tc main_arg0)) := by
  unfold res_main_v34
  rw [v28_eq]
  rfl

/-- The run's norms. -/
theorem v35_eq (V : Valuation τ sig (Elt Ideal)) : res_main_v35 V = normOf (deltas (V (Proc.devRef .tc main_arg0))) := by
  unfold res_main_v35
  rw [v34_eq]
  rfl

/-- The run's distances. -/
theorem v46_eq (V : Valuation τ sig (Elt Ideal)) :
    res_main_v46 V = distances (V (Proc.devRef .tc main_arg0)) (V (Proc.devRef .tc main_arg1)) (V (Proc.devRef .tc main_arg2)) := by
  unfold res_main_v46
  rw [v34_eq, v35_eq]
  rfl

/-- The run's positions of the nearest codewords. -/
theorem v47_eq (V : Valuation τ sig (Elt Ideal)) : res_main_v47 V
    = nearestOf (distances (V (Proc.devRef .tc main_arg0)) (V (Proc.devRef .tc main_arg1)) (V (Proc.devRef .tc main_arg2))) := by
  rw [← v46_eq]
  rfl

/-- The run's heads 1 to 7. -/
theorem v54_eq (V : Valuation τ sig (Elt Ideal)) : res_main_v54 V
    = others (V (Proc.devRef .tc main_arg0)) (V (Proc.devRef .tc main_arg1)) (V (Proc.devRef .tc main_arg2)) := by
  unfold res_main_v54 res_main_call4_v5
  rw [v28_eq, v35_eq, v47_eq]
  rfl

/-- The reference's array over the extended reals, of the arguments' contents: each entry `result`, the codes chosen by
    distance. -/
def arrayOf (kv : FVec Ideal S8x8x2048x128 .f32) (R : FVec Ideal S128x128 .f32) (cb : FVec Ideal S2 .f32) :
    FVec Ideal S8x8x2048x128 .f32 := fun y =>
  result (byDistance (cb (ix1 0)) (cb (ix1 1))) (fun h s d => kv (ix4 (y 0) h s d)) (fun e k => R (ix2 e k)) (y 1) (y 2) (y 3)

/-- The joined result is that array. -/
theorem joined_eq (kv : FVec Ideal S8x8x2048x128 .f32) (R : FVec Ideal S128x128 .f32) (cb : FVec Ideal S2 .f32) :
    joinOf (anchors kv) (others kv R cb) = arrayOf kv R cb := by
  funext y
  idx_vars y
  exact joined_apply kv R cb _ _ _ _

/-- The run's result is that array of the arguments. -/
theorem v57_eq (V : Valuation τ sig (Elt Ideal)) : joinOf (res_main_v28 V) (res_main_v54 V)
    = arrayOf (V (Proc.devRef .tc main_arg0)) (V (Proc.devRef .tc main_arg1)) (V (Proc.devRef .tc main_arg2)) := by
  rw [v28_eq, v54_eq, joined_eq]

variable (m : (ℓ : Loc nD τ sig) → Buf (Elt Ideal) ℓ) (ρ : Dev nD → PrngReg)

/-- Every run of the reference ends with that array in its result and its arguments as they were. -/
theorem run : θ_run defs (onTc (τ := τ) (main (F := Ideal))) ⟨m, fun _ => 0, ρ⟩ fun r => ∀ c : Dev nD,
      r.2.mem ((c : Thread nD τ).loc main_v57)
        = arrayOf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (v57_eq (launchContents m c)), (h c).2⟩) (Cert.RefRun.run m ρ)

end Cert.RefArray

end
-- ==== Proof.Domain.lean ====
/- What the precondition says of the arguments: the rotation's entries and the codewords are real numbers, and the
   codewords are in order. -/
module

public import proofs.«01_k».proof.Pre_ordered_codebook
public import proofs.«01_k».proof.Proof.Rows
public import Idealize.ShloMosaic.Lib.ReduceAll
public import Idealize.ShloMosaic.Lib.Pointwise

@[expose] public section

set_option maxRecDepth 16384

noncomputable section

namespace Cert.Domain

open Cert.Pre_ordered_codebook Cert.Rows Idealize.ShloMosaic

/-- A decided condition that is 1 holds. -/
theorem of_ofBool {p : Prop} [Decidable p] (h : BitVec.ofBool (decide p) = 1#1) : p := by
  by_contra hp
  rw [decide_eq_false hp] at h
  exact absurd h (by decide)

/-- An extended real whose magnitude is below +∞ is a real number. -/
theorem real_of_mag_lt {x : EReal} (h : Ideal.cmp .olt (mag x) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  have hlt : max x (-x) < ⊤ := of_ofBool h
  induction x with
  | bot => simp at hlt
  | coe r => exact ⟨r, rfl⟩
  | top => simp at hlt

/-- Three conditions that hold together hold each. -/
theorem three_ones {a b c : BitVec 1} (h : IntOp.andi (IntOp.andi a b) c = 1#1) : a = 1#1 ∧ b = 1#1 ∧ c = 1#1 := by
  revert a b c; decide

/-- The precondition, read. -/
theorem read [Cert.Pre_ordered_codebook.Facts] (kv : FVec Ideal S8x8x2048x128 .f32) (R : FVec Ideal S128x128 .f32)
    (cb : FVec Ideal S2 .f32) (h : fn kv R cb = fun _ => 1#1) :
    (∀ e k, ∃ r : ℝ, R (ix2 e k) = (r : EReal))
      ∧ ∃ c0 c1 : ℝ, c0 ≤ c1 ∧ cb (ix1 0) = (c0 : EReal) ∧ cb (ix1 1) = (c1 : EReal) := by
  haveI : Subsingleton S_.Idx := ⟨fun a b => funext fun i => i.elim0⟩
  obtain ⟨hR, hcb, hle⟩ := three_ones (congrFun h ix0)
  have hR := fun e k => real_of_mag_lt (Host.reduce_andi_all _ _ _ _ _ hR (ix2 e k))
  have hcb := fun k => real_of_mag_lt (Host.reduce_andi_all _ _ _ _ _ hcb (ix1 k))
  obtain ⟨c0, h0⟩ := hcb 0
  obtain ⟨c1, h1⟩ := hcb 1
  refine ⟨hR, c0, c1, ?_, h0, h1⟩
  have hle' : Ideal.cmp .ole (cb (ix1 0)) (cb (ix1 1)) = 1#1 := by
    rw [← hle]
    pointwise
  rw [h0, h1] at hle'
  exact EReal.coe_le_coe_iff.1 (of_ofBool hle')

end Cert.Domain

end
-- ==== Proof.lean ====
/- The proof of every claim: the two kernels' frames and the reference's, the two replacements that make the kernel
   ideal, and that the ideal kernel and the ideal reference end with the same array. What each program leaves behind is
   stated in the modules under Proof/; this file only puts them together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ordered_codebook
public import proofs.«01_k».proof.Proof.Rows
public import proofs.«01_k».proof.Proof.Coding
public import proofs.«01_k».proof.Proof.Array
public import proofs.«01_k».proof.Proof.RefRun
public import proofs.«01_k».proof.Proof.RefArray
public import proofs.«01_k».proof.Proof.Domain
public import Idealize.ShloMosaic.Adequacy
public import Idealize.ShloMosaic.Init

@[expose] public section

noncomputable section

namespace Cert.Proof

open Idealize.ShloMosaic Idealize.SL.Sem

/-- The kernel, on bits: it runs, leaves its arguments as they were, and every counter ends at zero. -/
theorem frame_kernel : Cert.quiescent_Kernel := fun m ρ _ => Cert.Kernel.Gen.frame m ρ

/-- The idealized kernel: it runs, leaves its arguments as they were, and every counter ends at zero. -/
theorem frame_ideal : Cert.quiescent_KernelIdeal := fun m ρ _ => Cert.KernelIdeal.Gen.frame m ρ

/-- The same where the precondition holds. -/
theorem frame_ideal_ordered : Cert.quiescent_KernelIdeal_pre_ordered_codebook :=
  fun m ρ _ => Cert.KernelIdeal.Gen.frame m ρ

/-- The idealized reference: it runs, leaves its arguments as they were, and, having no counters, ends with every counter
    at zero. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.RefRun.run (F := Ideal) m ρ)

/-- The same where the precondition holds. -/
theorem frame_reference_ordered : Cert.quiescent_ReferenceIdeal_pre_ordered_codebook := fun m ρ _ =>
  (θ_run Cert.ReferenceIdeal.defs _ _).mono
    (fun r h => ⟨fun c => (h c).2, sem_eq_zero_of_no_sems (by decide) r.2⟩) (Cert.RefRun.run (F := Ideal) m ρ)

/-- The two replacements that make the kernel ideal are the rules they are named for. -/
theorem preserves : Cert.preserves_Kernel_KernelIdeal :=
  ⟨IdealRules.named_const.statement Cert.KernelIdeal.κ "third" .f32 0x3EAAAAAB#32 ((1 / 3 : ℝ) : EReal) rfl,
    IdealRules.sign_bit.statement Cert.KernelIdeal.S2048x128 .f32⟩

/-- For real rotation entries and codewords in order, the kernel's array, its codes chosen by the midpoint, is the
    reference's, its codes chosen by distance. -/
theorem arrays_eq (kv : Vec Ideal Cert.ReferenceIdeal.S8x8x2048x128 .f32) (R : Vec Ideal Cert.ReferenceIdeal.S128x128 .f32)
    (cb : Vec Ideal Cert.ReferenceIdeal.S2 .f32) (hpre : Cert.Pre_ordered_codebook.fn (F := Ideal) kv R cb = fun _ => 1#1) :
    Cert.RefArray.arrayOf kv R cb = Cert.Array.resultOf kv R cb := by
  obtain ⟨hR, c0, c1, hle, h0, h1⟩ := Cert.Domain.read kv R cb hpre
  funext y
  show Cert.Rows.result _ _ _ _ _ _ = Cert.Rows.result _ _ _ _ _ _
  rw [h0, h1]
  unfold Cert.Rows.result
  split
  · rfl
  · exact (Cert.Rows.restored_eq hle _ _ _ hR _).symm

/-- The ideal kernel and the ideal reference, from the same arguments, end with the same array and leave the arguments as
    they were, where the precondition holds. -/
theorem algebraic : Cert.algebraic_KernelIdeal_ReferenceIdeal_pre_ordered_codebook := fun m ρ m' ρ' hpre hargs =>
  ⟨_, Cert.Array.run m ρ, (θ_run Cert.ReferenceIdeal.defs _ _).mono
    (fun r h c => ⟨(h c).1.trans ((by rw [(hargs c).1, (hargs c).2.1, (hargs c).2.2] :
      Cert.RefArray.arrayOf _ _ _ = Cert.RefArray.arrayOf _ _ _).trans (arrays_eq _ _ _ (hpre c))), (h c).2⟩)
    (Cert.RefArray.run m' ρ')⟩

/-- Every claim of the certificate. -/
theorem claim : Cert.Claim :=
  ⟨Cert.Kernel.Gen.facts, Cert.KernelIdeal.Gen.facts, Cert.ReferenceIdeal.Gen.facts, Cert.Pre_ordered_codebook.Gen.facts,
    frame_kernel, frame_ideal, frame_ideal_ordered, frame_reference, frame_reference_ordered, preserves, algebraic⟩

end Cert.Proof

end
